-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routes_in_range_KernelIdeal [hPre_routes_in_range_KernelIdeal : Cert.Pre_routes_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routes_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routes_in_range_ReferenceIdeal [hPre_routes_in_range_ReferenceIdeal : Cert.Pre_routes_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routes_in_range_KernelIdeal [hKernelIdeal : Cert.KernelIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routes_in_range_ReferenceIdeal [hReferenceIdeal : Cert.ReferenceIdeal.Facts] [hPre_routes_in_range_ReferenceIdeal : Cert.Pre_routes_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routes_in_range_KernelIdeal [hKernelIdeal : Cert.KernelIdeal.Facts] [hReferenceIdeal : Cert.ReferenceIdeal.Facts] [hPre_routes_in_range_KernelIdeal : Cert.Pre_routes_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routes_in_range_KernelIdeal : Cert.Pre_routes_in_range_KernelIdeal.Facts) (hPre_routes_in_range_ReferenceIdeal : Cert.Pre_routes_in_range_ReferenceIdeal.Facts),
    quiescent_Kernel (hKernel := hKernel)
    ∧ quiescent_KernelIdeal (hKernelIdeal := hKernelIdeal)
    ∧ quiescent_KernelIdeal_pre_routes_in_range_KernelIdeal (hKernelIdeal := hKernelIdeal) (hPre_routes_in_range_KernelIdeal := hPre_routes_in_range_KernelIdeal)
    ∧ quiescent_ReferenceIdeal (hReferenceIdeal := hReferenceIdeal)
    ∧ quiescent_ReferenceIdeal_pre_routes_in_range_ReferenceIdeal (hReferenceIdeal := hReferenceIdeal) (hPre_routes_in_range_ReferenceIdeal := hPre_routes_in_range_ReferenceIdeal)
    ∧ preserves_Kernel_KernelIdeal
    ∧ algebraic_KernelIdeal_ReferenceIdeal_pre_routes_in_range_KernelIdeal (hKernelIdeal := hKernelIdeal) (hReferenceIdeal := hReferenceIdeal) (hPre_routes_in_range_KernelIdeal := hPre_routes_in_range_KernelIdeal)
-- ==== Pre_routes_in_range_KernelIdeal.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2048x1024 .f32) (main_arg1 : FVec F S1024x32 .f32) (main_arg2 : IVec S2048x1 32) (main_arg3 : FVec F S8x1024x1024 .f32) : IVec S2048x1 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 32#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  main_v4
-- ==== Pre_routes_in_range_ReferenceIdeal.lean ====
abbrev S2048x1024 : Shape := ⟨2, ![2048, 1024]⟩
abbrev S1024x32 : Shape := ⟨2, ![1024, 32]⟩
abbrev S2048x1 : Shape := ⟨2, ![2048, 1]⟩
abbrev S32x1024x1024 : Shape := ⟨3, ![32, 1024, 1024]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2048x1024 .f32) (main_arg1 : FVec F S1024x32 .f32) (main_arg2 : IVec S2048x1 32) (main_arg3 : FVec F S32x1024x1024 .f32) : IVec S2048x1 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 32#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  main_v4
-- ==== Kernel.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S1x2048 : Shape := ⟨2, ![1, 2048]⟩
abbrev S512x1024 : Shape := ⟨2, ![512, 1024]⟩
abbrev S4x1024x1024 : Shape := ⟨3, ![4, 1024, 1024]⟩
abbrev S4 : Shape := ⟨1, ![4]⟩
abbrev S3x4 : Shape := ⟨2, ![3, 4]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S256x256 : Shape := ⟨2, ![256, 256]⟩
abbrev S256x32 : Shape := ⟨2, ![256, 32]⟩
abbrev S1x32 : Shape := ⟨2, ![1, 32]⟩
abbrev S256x1 : Shape := ⟨2, ![256, 1]⟩
abbrev S256 : Shape := ⟨1, ![256]⟩
abbrev S32x256 : Shape := ⟨2, ![32, 256]⟩
abbrev S32x1 : Shape := ⟨2, ![32, 1]⟩
abbrev S1x256 : Shape := ⟨2, ![1, 256]⟩
abbrev S512x2048 : Shape := ⟨2, ![512, 2048]⟩
abbrev S64x1024 : Shape := ⟨2, ![64, 1024]⟩
abbrev S1x1 : Shape := ⟨2, ![1, 1]⟩
abbrev S512x1 : Shape := ⟨2, ![512, 1]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x1, .i32⟩
  | .hbm, ⟨3, _⟩ => ⟨S8x1024x1024, .f32⟩
  | .hbm, ⟨4, _⟩ => ⟨S1x2048, .i32⟩
  | .hbm, ⟨5, _⟩ => ⟨S512x1024, .f32⟩
  | .local _ .vmem, ⟨0, _⟩ => ⟨S2048x1024, .f32⟩
  | .local _ .vmem, ⟨1, _⟩ => ⟨S2048x1, .i32⟩
  | .local _ .vmem, ⟨2, _⟩ => ⟨S1x2048, .i32⟩
  | .local _ .vmem, ⟨3, _⟩ => ⟨S512x1024, .f32⟩
  | .local _ .vmem, ⟨4, _⟩ => ⟨S2048x1024, .bf16⟩
  | .local _ .vmem, ⟨5, _⟩ => ⟨S512x1024, .bf16⟩
  | .local _ .vmem, ⟨6, _⟩ => ⟨S2048x1, .i32⟩
  | .local _ .vmem, ⟨7, _⟩ => ⟨S1x2048, .i32⟩
  | .local _ .vmem, ⟨8, _⟩ => ⟨S4x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v9 : BitVec 32 := Scalar.muli v4 c1_i32_4
  let v10 : BitVec 32 := Scalar.addi c0_i32 v9
  v10.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v11 : BitVec 32 := Scalar.muli v6 c1_i32_6
  let v12 : BitVec 32 := Scalar.addi c0_i32_7 v11
  v12.toNat
def k0_off1 (d0 : Dev nD) (c0_i32_209 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v7 : BitVec 32 := Scalar.muli v2 c512_i32
  let v558 : BitVec 32 := Scalar.addi v7 c0_i32_209
  let v559 : Index := Scalar.indexCast v558
  let c0_210 : Index := 0#32
  ![v559.toNat, 0]
def k0_off2 (d0 : Dev nD) (c0_i32_219 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_218 : BitVec 32 := 512#32
  let v569 : BitVec 32 := Scalar.muli v2 c512_i32_218
  let v570 : BitVec 32 := Scalar.addi v569 c0_i32_219
  let c0_i32_226 : BitVec 32 := 0#32
  ![v570.toNat, 0]
def k0_dev3 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_224 : BitVec 32 := 1#32
  let v571 : BitVec 32 := Scalar.muli v6 c1_i32_224
  let v572 : BitVec 32 := Scalar.addi c0_i32_225 v571
  v572.toNat
def k0_dev4 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_252 : BitVec 32 := 1#32
  let v604 : BitVec 32 := Scalar.muli v6 c1_i32_252
  let v605 : BitVec 32 := Scalar.addi c0_i32_253 v604
  v605.toNat
def k0_dev5 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_280 : BitVec 32 := 1#32
  let v637 : BitVec 32 := Scalar.muli v6 c1_i32_280
  let v638 : BitVec 32 := Scalar.addi c0_i32_281 v637
  v638.toNat
def k0_dev6 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_308 : BitVec 32 := 1#32
  let v670 : BitVec 32 := Scalar.muli v6 c1_i32_308
  let v671 : BitVec 32 := Scalar.addi c0_i32_309 v670
  v671.toNat
def k0_dev7 (d0 : Dev nD) : Nat :=
  let c0_i32_333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_332 : BitVec 32 := 1#32
  let v697 : BitVec 32 := Scalar.muli v4 c1_i32_332
  let v698 : BitVec 32 := Scalar.addi c0_i32_333 v697
  v698.toNat
def k0_dev8 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_355 : BitVec 32 := 1#32
  let v724 : BitVec 32 := Scalar.muli v4 c1_i32_355
  let v725 : BitVec 32 := Scalar.addi c0_i32_356 v724
  v725.toNat
def k0_dev9 (d0 : Dev nD) : Nat :=
  let c0_i32_379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_378 : BitVec 32 := 1#32
  let v751 : BitVec 32 := Scalar.muli v4 c1_i32_378
  let v752 : BitVec 32 := Scalar.addi c0_i32_379 v751
  v752.toNat
def k0_dev10 (d0 : Dev nD) : Nat :=
  let c0_i32_402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_401 : BitVec 32 := 1#32
  let v778 : BitVec 32 := Scalar.muli v4 c1_i32_401
  let v779 : BitVec 32 := Scalar.addi c0_i32_402 v778
  v779.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_405 : BitVec 32 := 512#32
  let v786 : BitVec 32 := Scalar.muli v2 c512_i32_405
  let v787 : Index := Scalar.indexCast v786
  let c0_406 : Index := 0#32
  ![v787.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_408 : BitVec 32 := 512#32
  let v798 : BitVec 32 := Scalar.muli v2 c512_i32_408
  let v799 : Index := Scalar.indexCast v798
  let c0_409 : Index := 0#32
  ![v799.toNat, 0]
def k0_off5 (d0 : Dev nD) (c1_i32_413 : BitVec 32) (c0_i32_419 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v803 : BitVec 32 := Scalar.subi v2 c1_i32_413
  let c4_i32_414 : BitVec 32 := 4#32
  let v804 : BitVec 32 := Scalar.addi v803 c4_i32_414
  let c4_i32_415 : BitVec 32 := 4#32
  let v805 : BitVec 32 := Scalar.remsi v804 c4_i32_415
  let c512_i32_418 : BitVec 32 := 512#32
  let v808 : BitVec 32 := Scalar.muli v805 c512_i32_418
  let v809 : BitVec 32 := Scalar.addi v808 c0_i32_419
  let c0_i32_426 : BitVec 32 := 0#32
  ![v809.toNat, 0]
def k0_off5_at (r : Fin 16) : BitVec 32 × BitVec 32 :=
  if r.val < 8 then
    if r.val < 4 then
      if r.val < 2 then
        if r.val < 1 then
          (1#32, 0#32)
        else
          (1#32, 64#32)
      else
        if r.val < 3 then
          (1#32, 128#32)
        else
          (1#32, 192#32)
    else
      if r.val < 6 then
        if r.val < 5 then
          (2#32, 0#32)
        else
          (2#32, 64#32)
      else
        if r.val < 7 then
          (2#32, 128#32)
        else
          (2#32, 192#32)
  else
    if r.val < 12 then
      if r.val < 10 then
        if r.val < 9 then
          (1#32, 256#32)
        else
          (1#32, 320#32)
      else
        if r.val < 11 then
          (1#32, 384#32)
        else
          (1#32, 448#32)
    else
      if r.val < 14 then
        if r.val < 13 then
          (0#32, 0#32)
        else
          (0#32, 64#32)
      else
        if r.val < 15 then
          (0#32, 128#32)
        else
          (0#32, 192#32)
def k0_dev11 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_434 : BitVec 32 := 1#32
  let v818 : BitVec 32 := Scalar.muli v6 c1_i32_434
  let v819 : BitVec 32 := Scalar.addi c0_i32_435 v818
  v819.toNat
def k0_off6 (d0 : Dev nD) (c1_i32_416 : BitVec 32) (c256_i32_439 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v806 : BitVec 32 := Scalar.addi v2 c1_i32_416
  let c4_i32_417 : BitVec 32 := 4#32
  let v807 : BitVec 32 := Scalar.remsi v806 c4_i32_417
  let c512_i32_438 : BitVec 32 := 512#32
  let v826 : BitVec 32 := Scalar.muli v807 c512_i32_438
  let v827 : BitVec 32 := Scalar.addi v826 c256_i32_439
  let c0_i32_446 : BitVec 32 := 0#32
  ![v827.toNat, 0]
def k0_off6_at (r : Fin 16) : BitVec 32 × BitVec 32 :=
  if r.val < 8 then
    if r.val < 4 then
      if r.val < 2 then
        if r.val < 1 then
          (1#32, 256#32)
        else
          (1#32, 320#32)
      else
        if r.val < 3 then
          (1#32, 384#32)
        else
          (1#32, 448#32)
    else
      if r.val < 6 then
        if r.val < 5 then
          (2#32, 256#32)
        else
          (2#32, 320#32)
      else
        if r.val < 7 then
          (2#32, 384#32)
        else
          (2#32, 448#32)
  else
    if r.val < 12 then
      if r.val < 10 then
        if r.val < 9 then
          (1#32, 0#32)
        else
          (1#32, 64#32)
      else
        if r.val < 11 then
          (1#32, 128#32)
        else
          (1#32, 192#32)
    else
      if r.val < 14 then
        if r.val < 13 then
          (0#32, 256#32)
        else
          (0#32, 320#32)
      else
        if r.val < 15 then
          (0#32, 384#32)
        else
          (0#32, 448#32)
def k0_dev12 (d0 : Dev nD) : Nat :=
  let c0_i32_455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_454 : BitVec 32 := 1#32
  let v836 : BitVec 32 := Scalar.muli v4 c1_i32_454
  let v837 : BitVec 32 := Scalar.addi c0_i32_455 v836
  v837.toNat
def k0_dev13 (d0 : Dev nD) : Nat :=
  let c0_i32_475 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_474 : BitVec 32 := 1#32
  let v854 : BitVec 32 := Scalar.muli v6 c1_i32_474
  let v855 : BitVec 32 := Scalar.addi c0_i32_475 v854
  v855.toNat
def k0_dev14 (d0 : Dev nD) : Nat :=
  let c0_i32_495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_494 : BitVec 32 := 1#32
  let v872 : BitVec 32 := Scalar.muli v4 c1_i32_494
  let v873 : BitVec 32 := Scalar.addi c0_i32_495 v872
  v873.toNat
def k0_dev15 (d0 : Dev nD) : Nat :=
  let c0_i32_515 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_514 : BitVec 32 := 1#32
  let v890 : BitVec 32 := Scalar.muli v6 c1_i32_514
  let v891 : BitVec 32 := Scalar.addi c0_i32_515 v890
  v891.toNat
def k0_dev16 (d0 : Dev nD) : Nat :=
  let c0_i32_535 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_534 : BitVec 32 := 1#32
  let v908 : BitVec 32 := Scalar.muli v4 c1_i32_534
  let v909 : BitVec 32 := Scalar.addi c0_i32_535 v908
  v909.toNat
def k0_dev17 (d0 : Dev nD) : Nat :=
  let c0_i32_555 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_554 : BitVec 32 := 1#32
  let v926 : BitVec 32 := Scalar.muli v6 c1_i32_554
  let v927 : BitVec 32 := Scalar.addi c0_i32_555 v926
  v927.toNat
def k0_dev18 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_574 : BitVec 32 := 1#32
  let v944 : BitVec 32 := Scalar.muli v4 c1_i32_574
  let v945 : BitVec 32 := Scalar.addi c0_i32_575 v944
  v945.toNat
def k0_dev19 (d0 : Dev nD) : Nat :=
  let c0_i32_600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_599 : BitVec 32 := 1#32
  let v967 : BitVec 32 := Scalar.muli v6 c1_i32_599
  let v968 : BitVec 32 := Scalar.addi c0_i32_600 v967
  v968.toNat
def k0_dev20 (d0 : Dev nD) : Nat :=
  let c0_i32_620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_619 : BitVec 32 := 1#32
  let v985 : BitVec 32 := Scalar.muli v4 c1_i32_619
  let v986 : BitVec 32 := Scalar.addi c0_i32_620 v985
  v986.toNat
def k0_dev21 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_639 : BitVec 32 := 1#32
  let v1003 : BitVec 32 := Scalar.muli v6 c1_i32_639
  let v1004 : BitVec 32 := Scalar.addi c0_i32_640 v1003
  v1004.toNat
def k0_dev22 (d0 : Dev nD) : Nat :=
  let c0_i32_660 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_659 : BitVec 32 := 1#32
  let v1021 : BitVec 32 := Scalar.muli v4 c1_i32_659
  let v1022 : BitVec 32 := Scalar.addi c0_i32_660 v1021
  v1022.toNat
def k0_dev23 (d0 : Dev nD) : Nat :=
  let c0_i32_680 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_679 : BitVec 32 := 1#32
  let v1039 : BitVec 32 := Scalar.muli v6 c1_i32_679
  let v1040 : BitVec 32 := Scalar.addi c0_i32_680 v1039
  v1040.toNat
def k0_dev24 (d0 : Dev nD) : Nat :=
  let c0_i32_700 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_699 : BitVec 32 := 1#32
  let v1057 : BitVec 32 := Scalar.muli v4 c1_i32_699
  let v1058 : BitVec 32 := Scalar.addi c0_i32_700 v1057
  v1058.toNat
def k0_dev25 (d0 : Dev nD) : Nat :=
  let c0_i32_720 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_719 : BitVec 32 := 1#32
  let v1075 : BitVec 32 := Scalar.muli v6 c1_i32_719
  let v1076 : BitVec 32 := Scalar.addi c0_i32_720 v1075
  v1076.toNat
def k0_dev26 (d0 : Dev nD) : Nat :=
  let c0_i32_740 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_739 : BitVec 32 := 1#32
  let v1093 : BitVec 32 := Scalar.muli v4 c1_i32_739
  let v1094 : BitVec 32 := Scalar.addi c0_i32_740 v1093
  v1094.toNat
def k0_off7 (d0 : Dev nD) (c2_i32_743 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1101 : BitVec 32 := Scalar.addi v2 c2_i32_743
  let c4_i32_744 : BitVec 32 := 4#32
  let v1102 : BitVec 32 := Scalar.remsi v1101 c4_i32_744
  let c512_i32_746 : BitVec 32 := 512#32
  let v1111 : BitVec 32 := Scalar.muli v1102 c512_i32_746
  let v1112 : Index := Scalar.indexCast v1111
  let c0_747 : Index := 0#32
  ![v1112.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_755 : BitVec 32 := 1#32
  let v1121 : BitVec 32 := Scalar.subi v2 c1_i32_755
  let c4_i32_756 : BitVec 32 := 4#32
  let v1122 : BitVec 32 := Scalar.addi v1121 c4_i32_756
  let c4_i32_757 : BitVec 32 := 4#32
  let v1123 : BitVec 32 := Scalar.remsi v1122 c4_i32_757
  let c512_i32_847 : BitVec 32 := 512#32
  let v1212 : BitVec 32 := Scalar.muli v1123 c512_i32_847
  let v1213 : Index := Scalar.indexCast v1212
  let c0_848 : Index := 0#32
  ![v1213.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x1024 : Shape := ⟨2, ![2048, 1024]⟩
abbrev S1024x32 : Shape := ⟨2, ![1024, 32]⟩
abbrev S2048x1 : Shape := ⟨2, ![2048, 1]⟩
abbrev S32x1024x1024 : Shape := ⟨3, ![32, 1024, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S2048x1024x1024 : Shape := ⟨3, ![2048, 1024, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x1, .i32⟩
  | .hbm, ⟨3, _⟩ => ⟨S32x1024x1024, .f32⟩
  | .hbm, ⟨4, _⟩ => ⟨S2048, .i32⟩
  | .hbm, ⟨5, _⟩ => ⟨S2048, .i32⟩
  | .hbm, ⟨6, _⟩ => ⟨S1x2048, .i32⟩
  | .hbm, ⟨7, _⟩ => ⟨S2048x1, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S2048x1024x1024, .f32⟩
  | .hbm, ⟨29, _⟩ => ⟨S2048x1024, .f32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048x1, .i1⟩
  | .hbm, ⟨34, _⟩ => ⟨S_, .f32⟩
  | .hbm, ⟨35, _⟩ => ⟨S2048x1024, .f32⟩
  | .hbm, ⟨36, _⟩ => ⟨S2048x1024, .i1⟩
  | .hbm, ⟨37, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_call0_v0 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.Proto.lean ====
/-
  The devices' conversation: which semaphore is whose, which copy fills which
  block of which device's table, and what each landing hands over.

  The table has 32 blocks of 64 rows; chunk k (8 blocks) is what device k
  computes. Device c sends its 8 blocks, four to the right and four to the left,
  and forwards each block it receives on the first two hops; after three hops
  every device holds all four chunks. The 24 copies a device issues are its
  CHANNELS, numbered hop * 8 + slot * 2 + direction.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.Kit
public import Idealize.ShloMosaic.Lib.Pipeline.RegionTalk
public import Idealize.ShloMosaic.Lib.Pipeline.Launch
public import Idealize.ShloMosaic.Lib.Rounds
public import Idealize.ShloMosaic.Lib.Rounds.Family
public import Idealize.ShloMosaic.Lib.Tactic

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The resources beside the heap: the pipeline's own copy, the conversation's, and the counters of
    the copies within a device. -/
abbrev UU : Type := UR sig nD τ × (URounds (GSem nD τ sig) (Fin 2) × Counters)

local notation "𝕄" => MT nD τ sig Unit (Elt F) ℕ UU ℕ

abbrev EP : Emb (UR sig nD τ) (MT nD τ sig Unit (Elt F) ℕ UU ℕ) := embL
abbrev ER : Emb (URounds (GSem nD τ sig) (Fin 2)) (MT nD τ sig Unit (Elt F) ℕ UU ℕ) :=
  (Emb.inl : Emb (URounds (GSem nD τ sig) (Fin 2)) (URounds (GSem nD τ sig) (Fin 2) × Counters)).trans embR

/-! ## Neighbours and channels -/

/-- The right neighbour, and the left one. -/
def nx (c : Dev nD) : Dev nD := ⟨(c.val + 1) % 4, Nat.mod_lt _ (by decide)⟩
def pv (c : Dev nD) : Dev nD := ⟨(c.val + 3) % 4, Nat.mod_lt _ (by decide)⟩

theorem pv_nx (c : Dev nD) : pv (nx c) = c := by revert c; decide
theorem nx_pv (c : Dev nD) : nx (pv c) = c := by revert c; decide

/-- A channel: one of the 24 copies a device issues. -/
abbrev Ch : Type := Fin 24

/-- 0: to the right; 1: to the left. -/
def dir (j : Ch) : Fin 2 := ⟨j.val % 2, Nat.mod_lt _ (by decide)⟩
def slot (j : Ch) : ℕ := j.val / 2 % 4
def hop (j : Ch) : ℕ := j.val / 8

/-- Where a device's copy goes, and where the copy it receives comes from. -/
def dst (d : Fin 2) (c : Dev nD) : Dev nD := if d = 0 then nx c else pv c
def org (d : Fin 2) (c : Dev nD) : Dev nD := if d = 0 then pv c else nx c

theorem dst_org (d : Fin 2) (c : Dev nD) : dst d (org d c) = c := by revert d c; decide
theorem org_dst (d : Fin 2) (c : Dev nD) : org d (dst d c) = c := by revert d c; decide

/-- The block a channel carries off device c (and so the block it fills at the other end). -/
def srcB (j : Ch) (c : Dev nD) : Fin 32 :=
  ⟨(if dir j = 0 then c.val + 4 - hop j else c.val + hop j) % 4 * 8 + (dir j).val * 4 + slot j, by
    have h1 : (if dir j = 0 then c.val + 4 - hop j else c.val + hop j) % 4 < 4 := Nat.mod_lt _ (by decide)
    have h2 : (dir j).val < 2 := (dir j).2
    have h3 : slot j < 4 := Nat.mod_lt _ (by decide)
    omega⟩
/-- The block channel j fills on device c. -/
def inB (j : Ch) (c : Dev nD) : Fin 32 := srcB j (org (dir j) c)
/-- Device c's own eight blocks. -/
def ownB (e : Fin 8) (c : Dev nD) : Fin 32 := ⟨c.val * 8 + e.val, by have h : c.val < 4 := c.2; have h2 := e.2; omega⟩

theorem inB_dst (j : Ch) (c : Dev nD) : inB j (dst (dir j) c) = srcB j c := by unfold inB; rw [org_dst]

/-- A channel's place in the order in which a device issues its copies. -/
def pos (j : Ch) : ℕ := if j.val < 8 then j.val % 2 * 4 + j.val / 2 else j.val

/-! ## Semaphores -/

abbrev barS : Sem sig := 0

def sendS (j : Ch) : DmaSem sig := (⟨8 + (dir j).val * 24 + hop j * 4 + slot j, by
    have h1 : hop j < 3 := by have := j.2; unfold hop; omega
    have h2 : (dir j).val < 2 := (dir j).2
    have h3 : slot j < 4 := Nat.mod_lt _ (by decide)
    omega⟩ : Fin 56)
def recvS (j : Ch) : DmaSem sig := (⟨20 + (dir j).val * 24 + hop j * 4 + slot j, by
    have h1 : hop j < 3 := by have := j.2; unfold hop; omega
    have h2 : (dir j).val < 2 := (dir j).2
    have h3 : slot j < 4 := Nat.mod_lt _ (by decide)
    omega⟩ : Fin 56)

abbrev barCell (c : Dev nD) : GSem nD τ sig := ((c : Thread nD τ), .reg barS)
abbrev sendCell (j : Ch) (c : Dev nD) : GSem nD τ sig := ((c : Thread nD τ), .dma (sendS j))
abbrev recvCell (j : Ch) (c : Dev nD) : GSem nD τ sig := ((c : Thread nD τ), .dma (recvS j))

/-- What a semaphore is for. -/
inductive Kd where
  | bar
  | send (j : Ch)
  | recv (j : Ch)
  | none
deriving DecidableEq

/-- The channel with the given direction, hop and slot. -/
def mkCh (d h s : ℕ) : Ch := ⟨(h * 8 + s * 2 + d) % 24, Nat.mod_lt _ (by decide)⟩

def kdD (k : ℕ) : Kd :=
  if k < 8 then .none
  else if k < 20 then .send (mkCh 0 ((k - 8) / 4) ((k - 8) % 4))
  else if k < 32 then .recv (mkCh 0 ((k - 20) / 4) ((k - 20) % 4))
  else if k < 44 then .send (mkCh 1 ((k - 32) / 4) ((k - 32) % 4))
  else .recv (mkCh 1 ((k - 44) / 4) ((k - 44) % 4))

def kd : SemLoc sig → Kd
  | .reg _ => .bar
  | .dma k => kdD (show Fin 56 from k).val

theorem kd_bar : kd (.reg barS) = .bar := rfl
theorem kd_send (j : Ch) : kd (.dma (sendS j)) = .send j := by revert j; decide
theorem kd_recv (j : Ch) : kd (.dma (recvS j)) = .recv j := by revert j; decide

/-! ## The table and its blocks -/

abbrev tabM : Memref sig .tc .vmem S2048x1024 .bf16 := Memref.whole cc0_scratch0
/-- The table's contents. -/
abbrev Tab (F : FTy → Type) : Type := (cc0_scratch0 : Ref sig .tc).ty.Contents (Elt F)
abbrev tl (c : Dev nD) : Loc nD τ sig := (tabM.view).loc (c : Thread nD τ)

/-- The block row i lies in. -/
def blkOf (i : S2048x1024.Idx) : Fin 32 := ⟨(i 0).val / 64, by have h : (i 0).val < 2048 := (i 0).2; omega⟩
/-- The entries of the blocks in S. -/
def rowsIn (S : Finset (Fin 32)) : Finset S2048x1024.Idx := Finset.univ.filter fun i => blkOf i ∈ S

theorem mem_rowsIn {S : Finset (Fin 32)} {i : S2048x1024.Idx} : i ∈ rowsIn S ↔ blkOf i ∈ S := by
  unfold rowsIn; rw [Finset.mem_filter]; exact ⟨fun h => h.2, fun h => ⟨Finset.mem_univ _, h⟩⟩
theorem rowsIn_univ : rowsIn Finset.univ = Finset.univ := by
  ext i; rw [mem_rowsIn]; exact ⟨fun _ => Finset.mem_univ _, fun _ => Finset.mem_univ _⟩
theorem rowsIn_union (S S' : Finset (Fin 32)) : rowsIn (S ∪ S') = rowsIn S ∪ rowsIn S' := by
  ext i; rw [Finset.mem_union, mem_rowsIn, mem_rowsIn, mem_rowsIn, Finset.mem_union]
theorem rowsIn_mono {S S' : Finset (Fin 32)} (h : S ⊆ S') : rowsIn S ⊆ rowsIn S' := fun i hi =>
  mem_rowsIn.mpr (h (mem_rowsIn.mp hi))
theorem rowsIn_disjoint {S S' : Finset (Fin 32)} (h : Disjoint S S') : Disjoint (rowsIn S) (rowsIn S') :=
  Finset.disjoint_left.mpr fun i hi hi' => Finset.disjoint_left.mp h (mem_rowsIn.mp hi) (mem_rowsIn.mp hi')

/-- Blocks S of device c's table, at share q, holding what f says. -/
def tb (c : Dev nD) (q : PosShare TreeShare) (S : Finset (Fin 32)) (f : Tab F) : sProp 𝕄 := tl c ↦[rowsIn S]{q} f

/-- The credit one block's copy carries. -/
abbrev N : ℕ := (tabM.slice (Rect.unit (s := S2048x1024) (fun | 0 => 0 | 1 => 0) S64x1024.size (by decide)) (fun _ => rfl)).view.dmaCredit
theorem N_pos : 0 < N := View.dmaCredit_pos _ (by decide)

/-! ## The schedule -/

section Sched

variable (T : Tab F)

/-- Paid to device c's barrier by the neighbour device c's direction-d copies go to: the blocks
    those copies will fill there, and that the receive cells they credit are open. -/
def barPay (c : Dev nD) (d : Fin 2) : sProp 𝕄 :=
  bigSep (Finset.univ.filter fun j : Ch => dir j = d) fun j =>
    iprop((∃ f : Tab F, tb (dst (dir j) c) fullShare {srcB j c} f) ∗ reached ER (recvCell j (dst (dir j) c)) 0)
/-- A landing hands over the block it filled, at the final table's contents. -/
def recvPay (c : Dev nD) (j : Ch) : sProp 𝕄 := tb c fullShare {inB j c} T
/-- The end of a copy gives its source back: the left half share of the block. -/
def sendPay (c : Dev nD) (j : Ch) : sProp 𝕄 := tb c fullShare.left {srcB j c} T

/-- One round on every cell. The barrier has two duties of one unit each, one for
    each neighbour; a send or receive cell has the one duty of its channel's copy. -/
def Rd : Rounds.Schedule (GSem nD τ sig) (Fin 2) 𝕄 where
  duties g r := if r = 0 ∧ g.1.2 = .tc then
      (match kd g.2 with | .bar => Finset.univ | .send _ => {0} | .recv _ => {0} | .none => ∅) else ∅
  unitless _ := False
  amount g _ _ := match kd g.2 with | .bar => 1 | _ => N
  payload g _ d := match kd g.2 with
    | .bar => barPay g.1.1 d
    | .send j => sendPay T g.1.1 j
    | .recv j => recvPay T g.1.1 j
    | .none => iprop(emp)
  amount_pos g _ _ _ := by
    cases kd g.2 <;> first | exact Nat.one_pos | exact N_pos

instance Rd_payload_storable (g : GSem nD τ sig) (r : ℕ) (d : Fin 2) :
    BI.Storable (upEmb : UEmb _ 𝕄) ((Rd T).payload g r d) := by
  dsimp only [Rd]
  cases kd g.2 <;> dsimp only
  · unfold barPay tb; infer_instance
  · unfold sendPay tb; infer_instance
  · unfold recvPay tb; infer_instance
  · infer_instance

variable (c : Dev nD) (j : Ch)

theorem duties_bar : (Rd T).duties (barCell c) 0 = Finset.univ := by dsimp only [Rd]; exact if_pos ⟨rfl, rfl⟩
theorem duties_send : (Rd T).duties (sendCell j c) 0 = {0} := by
  dsimp only [Rd]; rw [if_pos ⟨rfl, rfl⟩, kd_send]
theorem duties_recv : (Rd T).duties (recvCell j c) 0 = {0} := by
  dsimp only [Rd]; rw [if_pos ⟨rfl, rfl⟩, kd_recv]
theorem duties_later (g : GSem nD τ sig) : ∀ r, 1 ≤ r → (Rd T).duties g r = ∅ :=
  fun r hr => by dsimp only [Rd]; exact if_neg fun h => by omega

theorem amount_bar (d : Fin 2) : (Rd T).amount (barCell c) 0 d = 1 := rfl
theorem amount_send (d : Fin 2) : (Rd T).amount (sendCell j c) 0 d = N := by dsimp only [Rd]; rw [kd_send]
theorem amount_recv (d : Fin 2) : (Rd T).amount (recvCell j c) 0 d = N := by dsimp only [Rd]; rw [kd_recv]

theorem expect_bar : (Rd T).expect (barCell c) 0 = 2 := by
  unfold Schedule.expect Schedule.amountOf; rw [duties_bar]; simp only [amount_bar]; rfl
theorem expect_send : (Rd T).expect (sendCell j c) 0 = N := by
  unfold Schedule.expect Schedule.amountOf; rw [duties_send, Finset.sum_singleton, amount_send]
theorem expect_recv : (Rd T).expect (recvCell j c) 0 = N := by
  unfold Schedule.expect Schedule.amountOf; rw [duties_recv, Finset.sum_singleton, amount_recv]

theorem payload_bar (d : Fin 2) : (Rd T).payload (barCell c) 0 d = barPay c d := rfl
theorem payload_send (d : Fin 2) : (Rd T).payload (sendCell j c) 0 d = sendPay T c j := by
  dsimp only [Rd]; rw [kd_send]
theorem payload_recv (d : Fin 2) : (Rd T).payload (recvCell j c) 0 d = recvPay T c j := by
  dsimp only [Rd]; rw [kd_recv]

/-- What the barrier wait returns, over all channels: each channel's block on the neighbour. -/
theorem rest_bar : bigSep ((Rd T).duties (barCell c) 0 \ ∅) (fun d => (Rd T).payload (barCell c) 0 d)
    = bigSep Finset.univ fun j : Ch =>
        iprop((∃ f : Tab F, tb (dst (dir j) c) fullShare {srcB j c} f) ∗ reached ER (recvCell j (dst (dir j) c)) 0) := by
  rw [Finset.sdiff_empty, duties_bar, show (Finset.univ : Finset Ch) = (Finset.univ : Finset (Fin 2)).biUnion
    (fun d => Finset.univ.filter fun j : Ch => dir j = d) from by decide, BI.bigSep_biUnion_eq]
  · rfl
  · decide
theorem rest_send : bigSep ((Rd T).duties (sendCell j c) 0 \ ∅) (fun d => (Rd T).payload (sendCell j c) 0 d) = sendPay T c j := by
  rw [Finset.sdiff_empty, duties_send, bigSep_singleton, payload_send]
theorem rest_recv : bigSep ((Rd T).duties (recvCell j c) 0 \ ∅) (fun d => (Rd T).payload (recvCell j c) 0 d) = recvPay T c j := by
  rw [Finset.sdiff_empty, duties_recv, bigSep_singleton, payload_recv]

end Sched

/-! ## What a device owes, and the levels that order the waits -/

/-- The channels at or after place n in the issuing order. -/
def after (n : ℕ) : Finset Ch := Finset.univ.filter fun j => n ≤ pos j
/-- The receive credits device c still owes before its n-th copy. -/
def owed (c : Dev nD) (n : ℕ) : CellTallies nD τ sig Unit := ∑ j ∈ after n, tallyAt (recvCell j (dst (dir j) c)) () N
/-- What it owes at launch: all of them and the two barrier units. -/
def O₀ (c : Dev nD) : CellTallies nD τ sig Unit :=
  owed c 0 + tallyAt (barCell (nx c)) () 1 + tallyAt (barCell (pv c)) () 1

theorem after_pos (j : Ch) : after (pos j) = insert j (after (pos j + 1)) ∧ j ∉ after (pos j + 1) := by revert j; decide
theorem after_end : after 24 = ∅ := by decide
theorem after_zero : after 0 = Finset.univ := by decide

theorem owed_step (c : Dev nD) (j : Ch) :
    owed c (pos j) = owed c (pos j + 1) + tallyAt (recvCell j (dst (dir j) c)) () N := by
  unfold owed
  rw [(after_pos j).1, Finset.sum_insert (after_pos j).2, add_comm]
theorem owed_end (c : Dev nD) : owed c 24 = 0 := by unfold owed; rw [after_end]; rfl

def L (g : GSem nD τ sig) : Finset Unit := if g.1.2 = .tc then {()} else ∅
/-- Barrier cells at 1, the receive cells of hop h at 2 + h, the rest at 0. -/
def lv (g : GSem nD τ sig) (_ : Unit) : ℕ := match kd g.2 with | .bar => 1 | .recv j => 2 + hop j | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (j : Ch) (c : Dev nD) (u : Unit) : lv (recvCell j c) u = 2 + hop j := by dsimp only [lv]; rw [kd_recv]

theorem owed_pos {c : Dev nD} {n : ℕ} {g : GSem nD τ sig} {u : Unit} (h : 0 < owed c n g u) :
    ∃ j ∈ after n, g = recvCell j (dst (dir j) c) := by
  unfold owed at h
  rw [Finset.sum_apply, Finsupp.finset_sum_apply] at h
  obtain ⟨j, hj, hne⟩ := Finset.exists_ne_zero_of_sum_ne_zero (Nat.pos_iff_ne_zero.mp h)
  refine ⟨j, hj, ?_⟩
  rw [tallyAt_apply] at hne
  by_contra hg
  exact hne (if_neg fun h => hg h.1)

/-- A wait below every receive cell still owed is allowed. -/
theorem mayWait_owed (c : Dev nD) (n : ℕ) (sm : SemLoc sig) (h : ∀ j ∈ after n, lv ((c : Thread nD τ), sm) () < 2 + hop j) :
    (levAts L lv : sProp 𝕄) ⊢ MayWait (c : Thread nD τ) sm () (owed c n) :=
  MayOwe.of_cut (L := L) (lev := lv) (lv ((c : Thread nD τ), sm) ())
    (fun p hp => by rw [Finset.mem_singleton.mp hp, L_tc]; exact Finset.mem_singleton_self _)
    (fun g u hg => by
      obtain ⟨j, -, rfl⟩ := owed_pos hg
      rw [L_tc]; exact Finset.mem_singleton_self _)
    (fun p hp => by rw [Finset.mem_singleton.mp hp])
    (fun g u hg => by
      obtain ⟨j, hj, rfl⟩ := owed_pos hg
      rw [lv_recv]; exact h j hj)

/-- The barrier, a copy of the weights, and the receive cells of an earlier hop. -/
theorem mayWait_bar (c : Dev nD) : (levAts L lv : sProp 𝕄) ⊢ MayWait (c : Thread nD τ) (.reg barS) () (owed c 0) :=
  mayWait_owed c 0 _ fun j _ => by rw [lv_bar]; omega
theorem mayWait_low (c : Dev nD) (n : ℕ) (k : Fin 8) :
    (levAts L lv : sProp 𝕄) ⊢ MayWait (c : Thread nD τ) (.dma (show DmaSem sig from (⟨k.val, by omega⟩ : Fin 56))) () (owed c n) :=
  mayWait_owed c n _ fun j _ => by
    have h : kd (.dma (show DmaSem sig from (⟨k.val, by omega⟩ : Fin 56))) = .none := by revert k; decide
    dsimp only [lv]; rw [h]; dsimp only; omega
theorem mayWait_recv (c : Dev nD) (n : ℕ) (j : Ch) (h : ∀ j' ∈ after n, hop j < hop j') :
    (levAts L lv : sProp 𝕄) ⊢ MayWait (c : Thread nD τ) (.dma (recvS j)) () (owed c n) :=
  mayWait_owed c n _ fun j' hj' => by rw [lv_recv]; have := h j' hj'; omega

end Cert.KernelIdeal.Hand
-- ==== Proof.Table.lean ====
/-
  The table in blocks and chunks: the rectangles the program names are blocks
  and chunks, a landing leaves what its source held, and a store of a block
  leaves that block.
-/
module

public import proofs.«01_k».proof.Proof.Proto

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## Sets of blocks, shares -/

theorem tb_union (c : Dev nD) (q : PosShare TreeShare) {S S' : Finset (Fin 32)} (h : Disjoint S S') (f : Tab F) :
    (tb c q (S ∪ S') f : sProp 𝕄) ⊣⊢ iprop(tb c q S f ∗ tb c q S' f) := by
  unfold tb; rw [rowsIn_union]; exact pointsTo_union (rowsIn_disjoint h)

theorem tb_empty (c : Dev nD) (q : PosShare TreeShare) (f : Tab F) : (tb c q ∅ f : sProp 𝕄) = BI.emp := by
  unfold tb; rw [show rowsIn ∅ = ∅ from by ext i; rw [mem_rowsIn]; simp]; exact pointsTo_empty

theorem tb_share (c : Dev nD) (S : Finset (Fin 32)) (f : Tab F) :
    (tb c fullShare S f : sProp 𝕄) ⊣⊢ iprop(tb c fullShare.left S f ∗ tb c fullShare.right S f) := by
  unfold tb; exact pointsTo_share (PosShare.mem_left_op_right _)

theorem tb_congr (c : Dev nD) (q : PosShare TreeShare) (S : Finset (Fin 32)) {f g : Tab F} (h : ∀ i ∈ rowsIn S, f i = g i) :
    (tb c q S f : sProp 𝕄) = tb c q S g := by
  unfold tb; exact pointsTo_congr h

/-- One more block on a held set. -/
theorem tb_add (c : Dev nD) (q : PosShare TreeShare) {S S' : Finset (Fin 32)} {b : Fin 32} (hb : b ∉ S) (hS : S' = insert b S) (f : Tab F) :
    iprop(tb c q S f ∗ tb c q {b} f) ⊢ (tb c q S' f : sProp 𝕄) := by
  subst hS
  have hd : Disjoint S {b} := Finset.disjoint_singleton_right.mpr hb
  rw [show insert b S = S ∪ {b} from by rw [Finset.union_comm]; rfl]
  exact (tb_union c q hd f).2

/-- One block off a held set. -/
theorem tb_off (c : Dev nD) (q : PosShare TreeShare) {S S' : Finset (Fin 32)} {b : Fin 32} (hb : b ∉ S') (hS : S = insert b S') (f : Tab F) :
    (tb c q S f : sProp 𝕄) ⊢ iprop(tb c q S' f ∗ tb c q {b} f) := by
  subst hS
  have hd : Disjoint S' {b} := Finset.disjoint_singleton_right.mpr hb
  rw [show insert b S' = S' ∪ {b} from by rw [Finset.union_comm]; rfl]
  exact (tb_union c q hd f).1

/-! ## The rectangles of the program -/

/-- The rectangle of 64 rows from row 64 b on is block b. -/
theorem set_block {off : Fin 2 → ℕ} {inb} (b : Fin 32) (h0 : off 0 = 64 * b.val) (h1 : off 1 = 0) :
    (Rect.unit (s := S2048x1024) off S64x1024.size inb).set = rowsIn {b} := by
  ext i
  rw [Rect.mem_set_unit, mem_rowsIn, Finset.mem_singleton, Fin.forall_fin_two, h0, h1, Fin.ext_iff]
  have hi : (i 1).val < 1024 := (i 1).2
  show (64 * b.val ≤ (i 0).val ∧ (i 0).val < 64 * b.val + 64) ∧ (0 ≤ (i 1).val ∧ (i 1).val < 0 + 1024) ↔ (i 0).val / 64 = b.val
  omega

/-- The rectangle of 512 rows from row 512 k on lies within the blocks of chunk k. -/
theorem set_chunk {off : Fin 2 → ℕ} {inb} (k : Fin 4) (h0 : off 0 = 512 * k.val) :
    (Rect.unit (s := S2048x1024) off S512x1024.size inb).set ⊆ rowsIn (Finset.univ.filter fun b => b.val / 8 = k.val) := by
  intro i hi
  rw [Rect.mem_set_unit, Fin.forall_fin_two, h0] at hi
  rw [mem_rowsIn, Finset.mem_filter]
  refine ⟨Finset.mem_univ _, ?_⟩
  have h : 512 * k.val ≤ (i 0).val ∧ (i 0).val < 512 * k.val + 512 := hi.1
  show (i 0).val / 64 / 8 = k.val
  omega

/-- Row r, column j of a block and of a chunk of the table. -/
def inBlk (b : Fin 32) (x : S64x1024.Idx) : S2048x1024.Idx := fun
  | 0 => ⟨64 * b.val + (x 0).val, by have h : (x 0).val < 64 := (x 0).2; have := b.2; show _ < 2048; omega⟩
  | 1 => ⟨(x 1).val, (x 1).2⟩
def inChunk (k : Fin 4) (x : S512x1024.Idx) : S2048x1024.Idx := fun
  | 0 => ⟨512 * k.val + (x 0).val, by have h : (x 0).val < 512 := (x 0).2; have := k.2; show _ < 2048; omega⟩
  | 1 => ⟨(x 1).val, (x 1).2⟩

/-- Block b and chunk k of the table. -/
def blkT (T : Tab F) (b : Fin 32) : S64x1024.Idx → Elt F .bf16 := fun x => T (inBlk b x)
def chunkT (T : Tab F) (k : Fin 4) : S512x1024.Idx → Elt F .bf16 := fun x => T (inChunk k x)

theorem emb_block {off : Fin 2 → ℕ} {inb} (b : Fin 32) (h0 : off 0 = 64 * b.val) (h1 : off 1 = 0) (x : S64x1024.Idx) :
    (Rect.unit (s := S2048x1024) off S64x1024.size inb).emb x = inBlk b x := by
  funext a; apply Fin.ext
  revert a; rw [Fin.forall_fin_two]
  constructor
  · show off 0 + 1 * (x 0).val = 64 * b.val + (x 0).val; rw [h0]; omega
  · show off 1 + 1 * (x 1).val = (x 1).val; rw [h1]; omega

theorem emb_chunk {off : Fin 2 → ℕ} {inb} (k : Fin 4) (h0 : off 0 = 512 * k.val) (h1 : off 1 = 0) (x : S512x1024.Idx) :
    (Rect.unit (s := S2048x1024) off S512x1024.size inb).emb x = inChunk k x := by
  funext a; apply Fin.ext
  revert a; rw [Fin.forall_fin_two]
  constructor
  · show off 0 + 1 * (x 0).val = 512 * k.val + (x 0).val; rw [h0]; omega
  · show off 1 + 1 * (x 1).val = (x 1).val; rw [h1]; omega

theorem read_chunk {off : Fin 2 → ℕ} {inb} (k : Fin 4) (h0 : off 0 = 512 * k.val) (h1 : off 1 = 0) (T : Tab F) :
    (tabM.view).readAt (Elt F) (Rect.unit (s := S2048x1024) off S512x1024.size inb).toLoadRect T = chunkT T k := by
  funext x
  show T ((Rect.unit (s := S2048x1024) off S512x1024.size inb).emb x) = T (inChunk k x)
  rw [emb_chunk k h0 h1]

/-- What a landing leaves is what its source held there. -/
theorem landed (v : View sig .tc .vmem S64x1024 .bf16) (fd T : v.ty.Contents (Elt F)) :
    ∀ i ∈ v.set, v.write (Elt F) fd (v.read (Elt F) T) Finset.univ i = T i := by
  intro i hi
  obtain ⟨x, -, rfl⟩ := Finset.mem_map.mp hi
  rw [View.write_emb_of_mem _ _ (Finset.mem_univ x), View.read_apply, cast_cast, cast_eq]

/-- A store of what the table finally holds in block b leaves that there. -/
theorem stored {off : Fin 2 → ℕ} {inb} (b : Fin 32) (h0 : off 0 = 64 * b.val) (h1 : off 1 = 0) (f T : Tab F)
    (w : S64x1024.Idx → Elt F .bf16) (hw : w = blkT T b) :
    ∀ i ∈ rowsIn {b}, (tabM.access (Rect.unit (s := S2048x1024) off S64x1024.size inb)).write (Elt F) f w Finset.univ i = T i := by
  intro i hi
  rw [← set_block (inb := inb) b h0 h1, ← View.set_slice_whole cc0_scratch0] at hi
  obtain ⟨x, -, rfl⟩ := Finset.mem_map.mp hi
  refine (View.write_emb_of_mem (v := tabM.access (Rect.unit (s := S2048x1024) off S64x1024.size inb)) f w (Finset.mem_univ x)).trans ?_
  rw [cast_eq, hw]
  exact congrArg T (emb_block b h0 h1 x).symm

/-- The slice the copies name is a block. -/
theorem set_slice_block {off : Fin 2 → ℕ} {inb} {hs} (b : Fin 32) (h0 : off 0 = 64 * b.val) (h1 : off 1 = 0) :
    (tabM.slice (Rect.unit (s := S2048x1024) off S64x1024.size inb) hs).view.set = rowsIn {b} :=
  (View.set_slice_whole cc0_scratch0 _).trans (set_block b h0 h1)

/-- A block held through the slice a copy names is the block. -/
theorem slice_pts (c : Dev nD) (q : PosShare TreeShare) {off : Fin 2 → ℕ} {inb} {hs} (b : Fin 32) (h0 : off 0 = 64 * b.val) (h1 : off 1 = 0)
    (f : Tab F) :
    ((tabM.slice (Rect.unit (s := S2048x1024) off S64x1024.size inb) hs).view.loc (c : Thread nD τ)
      ↦[(tabM.slice (Rect.unit (s := S2048x1024) off S64x1024.size inb) hs).view.set]{q} f : sProp 𝕄) = tb c q {b} f := by
  rw [set_slice_block b h0 h1]; rfl

theorem slice_landed (c : Dev nD) {off off' : Fin 2 → ℕ} {inb inb'} {hs hs'} (hoff : off = off') (b : Fin 32) (h0 : off 0 = 64 * b.val) (h1 : off 1 = 0)
    (fd T : Tab F) :
    ((tabM.slice (Rect.unit (s := S2048x1024) off' S64x1024.size inb') hs').view.loc (c : Thread nD τ)
      ↦[(tabM.slice (Rect.unit (s := S2048x1024) off' S64x1024.size inb') hs').view.set]{fullShare}
        ((tabM.slice (Rect.unit (s := S2048x1024) off' S64x1024.size inb') hs').view.write (Elt F) fd
          ((tabM.slice (Rect.unit (s := S2048x1024) off S64x1024.size inb) hs).view.read (Elt F) T) Finset.univ) : sProp 𝕄)
      = tb c fullShare {b} T := by
  subst hoff
  exact (pointsTo_congr (landed (tabM.slice (Rect.unit (s := S2048x1024) off S64x1024.size inb) hs).view fd T)).trans (slice_pts c fullShare b h0 h1 T)

theorem access_set {off : Fin 2 → ℕ} {inb} (b : Fin 32) (h0 : off 0 = 64 * b.val) (h1 : off 1 = 0) :
    (tabM.access (Rect.unit (s := S2048x1024) off S64x1024.size inb)).set = rowsIn {b} :=
  (View.set_slice_whole cc0_scratch0 _).trans (set_block b h0 h1)
theorem access_set_chunk {off : Fin 2 → ℕ} {inb} (k : Fin 4) (h0 : off 0 = 512 * k.val) :
    (tabM.access (Rect.unit (s := S2048x1024) off S512x1024.size inb)).set ⊆ rowsIn (Finset.univ.filter fun b => b.val / 8 = k.val) := by
  intro i hi
  exact set_chunk (inb := inb) k h0 (by rw [← View.set_slice_whole cc0_scratch0]; exact hi)

end Cert.KernelIdeal.Hand
-- ==== Proof.Steps.lean ====
/-
  The steps of a device: issue a copy, wait for a landing, wait for a copy's end,
  store an own block, load a chunk. Each takes the device's holdings from one
  count to the next.
-/
module

public import proofs.«01_k».proof.Proof.Table

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

abbrev 𝒱₀ : Variants := Variants.none

theorem bigSep_ins {I : Type} [DecidableEq I] {s : Finset I} {i : I} (h : i ∉ s) (Φ : I → sProp 𝕄) :
    bigSep (insert i s) Φ = iprop(Φ i ∗ bigSep s Φ) := BI.bigSep_insert h

/-! ## What device c holds between steps -/

variable (T : Tab F)

/-- The invariants device c opens and the rounds known to be reached, at the names K. -/
def invs (K : GSem nD τ sig → ℕ) (c : Dev nD) : sProp 𝕄 :=
  bigSep Finset.univ fun j : Ch =>
    iprop(cellInv ER (Rd T) (K (sendCell j c)) (sendCell j c) ∗ cellInv ER (Rd T) (K (recvCell j c)) (recvCell j c)
      ∗ cellInv ER (Rd T) (K (recvCell j (dst (dir j) c))) (recvCell j (dst (dir j) c))
      ∗ reached ER (sendCell j c) 0)
/-- After the barrier: every receive cell device c's copies credit is open. -/
def opens (c : Dev nD) : sProp 𝕄 := bigSep Finset.univ fun j : Ch => reached ER (recvCell j (dst (dir j) c)) 0

instance (K : GSem nD τ sig → ℕ) (c : Dev nD) : BI.Persistent (invs T K c : sProp 𝕄) := by unfold invs; infer_instance
instance (c : Dev nD) : BI.Persistent (opens c : sProp 𝕄) := by unfold opens; infer_instance

theorem invs_at (K : GSem nD τ sig → ℕ) (c : Dev nD) (j : Ch) : (invs T K c : sProp 𝕄) ⊢
    iprop(cellInv ER (Rd T) (K (sendCell j c)) (sendCell j c) ∗ cellInv ER (Rd T) (K (recvCell j c)) (recvCell j c)
      ∗ cellInv ER (Rd T) (K (recvCell j (dst (dir j) c))) (recvCell j (dst (dir j) c))
      ∗ reached ER (sendCell j c) 0) := by
  unfold invs; exact BI.bigSep_elim (Finset.mem_univ j)
theorem opens_at (c : Dev nD) (j : Ch) : (opens c : sProp 𝕄) ⊢ reached ER (recvCell j (dst (dir j) c)) 0 := by
  unfold opens; exact BI.bigSep_elim (Finset.mem_univ j)

/-- What channel j's copy is issued with, beside its source. -/
def toSend (c : Dev nD) (j : Ch) : sProp 𝕄 :=
  iprop(dutyTok ER (sendCell j c) 0 0 ∗ dutyTok ER (recvCell j (dst (dir j) c)) 0 0
    ∗ ∃ f : Tab F, tb (dst (dir j) c) fullShare {srcB j c} f)
/-- The channels before place n in the issuing order. -/
def sent (n : ℕ) : Finset Ch := Finset.univ.filter fun j => ¬ n ≤ pos j
/-- Before the n-th copy: what the remaining ones need, and the credits of those issued. -/
def SP (c : Dev nD) (n : ℕ) : sProp 𝕄 :=
  iprop(bigSep (after n) (toSend (F := F) c) ∗ bigSep (sent n) fun j => cred (tallyAt (sendCell j c) () N))

/-- Device c's blocks, and those it holds after the first n landings. -/
def ownS (c : Dev nD) (e : ℕ) : Finset (Fin 32) := Finset.univ.filter fun b => b.val / 8 = c.val ∧ b.val % 8 < e
def got (c : Dev nD) (n : ℕ) : Finset (Fin 32) := ownS c 8 ∪ (Finset.univ.filter fun j : Ch => j.val < n).image fun j => inB j c
/-- The blocks of the last hop among the first n landings: received but not sent on. -/
def kept (c : Dev nD) (n : ℕ) : Finset (Fin 32) := (Finset.univ.filter fun j : Ch => 16 ≤ j.val ∧ j.val < n).image fun j => inB j c

/-- After n landings: the positions and credits of the receive cells, and the half shares
    device c keeps of the blocks it holds. -/
def RP (c : Dev nD) (n : ℕ) : sProp 𝕄 :=
  iprop(bigSep (Finset.univ.filter fun j : Ch => n ≤ j.val) (fun j => iprop(atPos ER (recvCell j c) 0 ∅ 0 ∗ cred (tallyAt (recvCell j c) () N)))
    ∗ bigSep (Finset.univ.filter fun j : Ch => ¬ n ≤ j.val) (fun j => atPos ER (recvCell j c) (0 + 1) ∅ 0)
    ∗ tb c fullShare.right (got c n) T ∗ tb c fullShare.left (kept c n) T)

/-- The blocks whose left half share is back after the first n copies are over. -/
def back (c : Dev nD) (n : ℕ) : Finset (Fin 32) := kept c 24 ∪ (Finset.univ.filter fun j : Ch => j.val < n).image fun j => srcB j c
/-- After n of the waits for the copies' ends. -/
def WP (c : Dev nD) (n : ℕ) : sProp 𝕄 :=
  iprop(bigSep (Finset.univ.filter fun j : Ch => n ≤ j.val) (fun j => iprop(atPos ER (sendCell j c) 0 ∅ 0 ∗ cred (tallyAt (sendCell j c) () N)))
    ∗ bigSep (Finset.univ.filter fun j : Ch => ¬ n ≤ j.val) (fun j => atPos ER (sendCell j c) (0 + 1) ∅ 0)
    ∗ tb c fullShare.left (back c n) T)

/-- After e of device c's own blocks are stored: the rest as found, and the kept half shares. -/
def OP (c : Dev nD) (e : ℕ) : sProp 𝕄 :=
  iprop((∃ f : Tab F, tb c fullShare (ownS c 8 \ ownS c e) f) ∗ tb c fullShare.right (ownS c e) T)

theorem got_step (c : Dev nD) (j : Ch) : inB j c ∉ got c j.val ∧ got c (j.val + 1) = insert (inB j c) (got c j.val) := by
  revert c j; decide +kernel
theorem kept_step (c : Dev nD) (j : Ch) (h : 16 ≤ j.val) : inB j c ∉ kept c j.val ∧ kept c (j.val + 1) = insert (inB j c) (kept c j.val) := by
  revert c j; decide +kernel
theorem kept_skip (c : Dev nD) (j : Ch) (h : j.val < 16) : kept c (j.val + 1) = kept c j.val := by
  revert c j; decide +kernel
theorem back_step (c : Dev nD) (j : Ch) : srcB j c ∉ back c j.val ∧ back c (j.val + 1) = insert (srcB j c) (back c j.val) := by
  revert c j; decide +kernel
theorem got_end (c : Dev nD) : got c 24 = Finset.univ := by revert c; decide +kernel
theorem got_zero (c : Dev nD) : got c 0 = ownS c 8 := by revert c; decide +kernel
theorem back_end (c : Dev nD) : back c 24 = Finset.univ := by revert c; decide +kernel
theorem back_zero (c : Dev nD) : back c 0 = kept c 24 := by revert c; decide +kernel
theorem own_step (c : Dev nD) (e : Fin 8) : ownB e c ∉ ownS c e.val ∧ ownS c (e.val + 1) = insert (ownB e c) (ownS c e.val)
    ∧ ownB e c ∉ ownS c 8 \ ownS c (e.val + 1) ∧ ownS c 8 \ ownS c e.val = insert (ownB e c) (ownS c 8 \ ownS c (e.val + 1)) := by
  revert c e; decide +kernel
theorem from_step (j : Ch) : (Finset.univ.filter fun i : Ch => j.val ≤ i.val) = insert j (Finset.univ.filter fun i : Ch => j.val + 1 ≤ i.val)
    ∧ j ∉ (Finset.univ.filter fun i : Ch => j.val + 1 ≤ i.val)
    ∧ (Finset.univ.filter fun i : Ch => ¬ j.val + 1 ≤ i.val) = insert j (Finset.univ.filter fun i : Ch => ¬ j.val ≤ i.val)
    ∧ j ∉ (Finset.univ.filter fun i : Ch => ¬ j.val ≤ i.val) := by
  revert j; decide +kernel
theorem sent_step (j : Ch) : sent (pos j + 1) = insert j (sent (pos j)) ∧ j ∉ sent (pos j) := by
  revert j; decide +kernel

/-! ## The steps -/

section Steps

variable (c : Dev nD) {α : Type} {Q : α → sProp (MT nD τ sig Unit (Elt F) ℕ UU ℕ)} {W : Waits sig Unit}

/-- ISSUE channel j's copy: its source's left half share goes with it. -/
theorem step_send (K : GSem nD τ sig → ℕ) (j : Ch) (n : ℕ) (hn : n = pos j) {off : Fin 2 → ℕ} {inb inb'} {hs hs'}
    (h0 : off 0 = 64 * (srcB j c).val) (h1 : off 1 = 0) {d : Dev nD} (hd : d = dst (dir j) c)
    {sS sR : DmaSem sig} (hS : sS = sendS j) (hR : sR = recvS j)
    {hsc} {hsrc} {hdst} {hsem}
    {k : PUnit → Prog (TpuEff nD τ sig (Elt F) Λ₀ .tc) α} :
    iprop(invs T K c ∗ opens c ∗ SP c n ∗ owes (c : Thread nD τ) (owed c n) W ∗ tb c fullShare.left {srcB j c} T)
      ⊢ iprop(((SP c (n + 1) ∗ owes (c : Thread nD τ) (owed c (n + 1)) W) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (tabM.slice (Rect.unit (s := S2048x1024) off S64x1024.size inb) hs)
            (.remote (Dev.tc d) (tabM.slice (Rect.unit (s := S2048x1024) off S64x1024.size inb') hs') (.dma sS) hsc) (.dma sR) hsrc hdst hsem) k) Q) := by
  subst hd hS hR hn
  unfold SP
  rw [(after_pos j).1, bigSep_ins (after_pos j).2, (sent_step j).1, bigSep_ins (sent_step j).2]
  iintro ⟨#HI, #Hop, ⟨⟨Hj, Hrest⟩, Hcr⟩, HO, Hsrc⟩
  ihave Hinv := (invs_at T K c j) $$ HI
  icases Hinv with ⟨#HIs, #HIr0, #HIr, #HrS⟩
  ihave #HrR := (opens_at c j) $$ Hop
  iintro Hk
  unfold toSend
  icases Hj with ⟨HtS, HtR, ⟨%fd, Hdst⟩⟩
  iapply (Rounds.wp_send_pointsTo 𝒱₀ ER (Rd T) (c : Thread nD τ) none (c' := (dst (dir j) c : Thread nD τ))
      (src := tabM.slice (Rect.unit (s := S2048x1024) off S64x1024.size inb) hs)
      (dst := tabM.slice (Rect.unit (s := S2048x1024) off S64x1024.size inb') hs')
      (sS := .dma (sendS j)) (sem := .dma (recvS j)) (q := fullShare.left) (fs := T)
      (κ₁ := K (sendCell j c)) (κ₂ := K (recvCell j (dst (dir j) c)))
      (r₁ := 0) (r₂ := 0) (d₁ := 0) (d₂ := 0) (fd := fd)
      (by rw [duties_send]; exact Finset.mem_singleton_self _) (by rw [duties_recv]; exact Finset.mem_singleton_self _)
      () () N rfl (amount_send T c j 0) (amount_recv T (dst (dir j) c) j 0) (owed c (pos j + 1)) (owed_step c j) (W := W)
      (by rw [payload_send]; exact Entails.of_eq (slice_pts c fullShare.left (srcB j c) h0 h1 T))
      (by
        rw [payload_recv]; unfold recvPay; rw [inB_dst]
        exact Entails.of_eq (slice_landed (dst (dir j) c) rfl (srcB j c) h0 h1 fd T))) $$ [Hsrc Hdst HO HtS HtR]
  · isplitr; · iexact HIs
    isplitr; · iexact HIr
    isplitl [Hsrc]
    · iapply (Entails.of_eq (slice_pts c fullShare.left (srcB j c) h0 h1 T).symm); iexact Hsrc
    isplitl [Hdst]
    · iapply (Entails.of_eq (slice_pts (dst (dir j) c) fullShare (srcB j c) h0 h1 fd).symm); iexact Hdst
    isplitl [HO]; · iexact HO
    isplitl [HtS]; · iexact HtS
    isplitr; · iexact HrS
    isplitl [HtR]; · iexact HtR
    iexact HrR
  iintro ⟨Hc, HO⟩
  iapply Hk
  isplitr [HO]
  · isplitl [Hrest]; · iexact Hrest
    isplitl [Hc]; · iexact Hc
    iexact Hcr
  iexact HO

/-- WAIT for channel j's landing: the block arrives, its right half joins what is kept. -/
theorem step_recv₀ (K : GSem nD τ sig → ℕ) (j : Ch) (O : CellTallies nD τ sig Unit) {sR : DmaSem sig} (hR : sR = recvS j)
    {off off' : Fin 2 → ℕ} {inb inb'} {hs hs'} {hsrc hdst}
    {k : PUnit → Prog (TpuEff nD τ sig (Elt F) Λ₀ .tc) α} :
    iprop(invs T K c ∗ MayWait (c : Thread nD τ) (.dma (recvS j)) () O ∗ owes (c : Thread nD τ) O W
        ∗ atPos ER (recvCell j c) 0 ∅ 0 ∗ cred (tallyAt (recvCell j c) () N))
      ⊢ iprop(((owes (c : Thread nD τ) O (insert (SemLoc.dma (recvS j), ()) W) ∗ atPos ER (recvCell j c) (0 + 1) ∅ 0
          ∗ tb c fullShare {inB j c} T) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR (tabM.slice (Rect.unit (s := S2048x1024) off S64x1024.size inb) hs)
            (tabM.slice (Rect.unit (s := S2048x1024) off' S64x1024.size inb') hs') hsrc hdst) k) Q) := by
  subst hR
  iintro ⟨#HI, HM, HO, Hat, Hc⟩
  ihave Hinv := (invs_at T K c j) $$ HI
  icases Hinv with ⟨-, #HIr, -, -⟩
  iintro Hk
  iapply (Rounds.wp_wait_rest_token 𝒱₀ ER (Rd T) (c : Thread nD τ) none (κ := K (recvCell j c))
      (wpE_waitDma2_eq (src := tabM.slice (Rect.unit (s := S2048x1024) off S64x1024.size inb) hs)
        (dst := tabM.slice (Rect.unit (s := S2048x1024) off' S64x1024.size inb') hs') 𝒱₀ (c : Thread nD τ) none Set.univ) (Set.mem_univ _) () (O := O) (W := W) (R := 0) (m := 0) (T := ∅)
      ((Nat.zero_add _).trans (expect_recv T c j).symm)) $$ [HM HO Hat Hc]
  · isplitr; · iexact HIr
    isplitl [Hc]; · iexact Hc
    isplitl [HO]; · iexact HO
    isplitl [HM]; · iexact HM
    iexact Hat
  iintro ⟨HO, Hat, -, Hpay⟩
  ihave Hb := (Entails.of_eq (rest_recv T c j)) $$ Hpay
  iapply Hk
  isplitl [HO]; · iexact HO
  isplitl [Hat]; · iexact Hat
  unfold recvPay; iexact Hb

/-- The blocks channel j's landing adds to what device c keeps at the right half share. -/
theorem step_recv (K : GSem nD τ sig → ℕ) (j : Ch) (hj : j.val < 16) (n n' : ℕ) (hn : n = j.val) (hlev : ∀ j' ∈ after n', hop j < hop j')
    {sR : DmaSem sig} (hR : sR = recvS j)
    {off off' : Fin 2 → ℕ} {inb inb'} {hs hs'} {hsrc hdst}
    {k : PUnit → Prog (TpuEff nD τ sig (Elt F) Λ₀ .tc) α} :
    iprop(invs T K c ∗ levAts L lv ∗ RP T c n ∗ owes (c : Thread nD τ) (owed c n') W)
      ⊢ iprop(((RP T c (n + 1) ∗ (∃ W, owes (c : Thread nD τ) (owed c n') W) ∗ tb c fullShare.left {inB j c} T) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR (tabM.slice (Rect.unit (s := S2048x1024) off S64x1024.size inb) hs)
            (tabM.slice (Rect.unit (s := S2048x1024) off' S64x1024.size inb') hs') hsrc hdst) k) Q) := by
  subst hn
  unfold RP
  rw [(from_step j).1, bigSep_ins (from_step j).2.1, (from_step j).2.2.1, bigSep_ins (from_step j).2.2.2, kept_skip c j hj]
  iintro ⟨#HI, #Hlev, ⟨⟨⟨Hat, Hc⟩, Hrest⟩, Hats, Hrt, Hlt⟩, HO⟩ Hk
  iapply (step_recv₀ T c K j (owed c n') hR) $$ [HO Hat Hc]
  · isplitr; · iexact HI
    isplitr; · iapply (mayWait_recv c n' j hlev); iexact Hlev
    isplitl [HO]; · iexact HO
    isplitl [Hat] <;> iassumption
  iintro ⟨HO, Hat, Hb⟩
  ihave Hb2 := (tb_share c {inB j c} T).1 $$ Hb
  icases Hb2 with ⟨Hl, Hr⟩
  iapply Hk
  isplitr [HO Hl]
  · isplitl [Hrest]; · iexact Hrest
    isplitl [Hat Hats]
    · isplitl [Hat] <;> iassumption
    isplitr [Hlt]
    · iapply (tb_add c fullShare.right (got_step c j).1 (got_step c j).2 T)
      isplitl [Hrt] <;> iassumption
    iexact Hlt
  isplitl [HO]; · iexists _; iexact HO
  iexact Hl

/-- The same on the last hop, where nothing is sent on and both halves are kept. -/
theorem step_recv_last (K : GSem nD τ sig → ℕ) (j : Ch) (hj : 16 ≤ j.val) (n : ℕ) (hn : n = j.val)
    {sR : DmaSem sig} (hR : sR = recvS j)
    {off off' : Fin 2 → ℕ} {inb inb'} {hs hs'} {hsrc hdst}
    {k : PUnit → Prog (TpuEff nD τ sig (Elt F) Λ₀ .tc) α} :
    iprop(invs T K c ∗ RP T c n ∗ owes (c : Thread nD τ) (owed c 24) W)
      ⊢ iprop(((RP T c (n + 1) ∗ ∃ W, owes (c : Thread nD τ) (owed c 24) W) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR (tabM.slice (Rect.unit (s := S2048x1024) off S64x1024.size inb) hs)
            (tabM.slice (Rect.unit (s := S2048x1024) off' S64x1024.size inb') hs') hsrc hdst) k) Q) := by
  subst hn
  unfold RP
  rw [(from_step j).1, bigSep_ins (from_step j).2.1, (from_step j).2.2.1, bigSep_ins (from_step j).2.2.2, owed_end]
  iintro ⟨#HI, ⟨⟨⟨Hat, Hc⟩, Hrest⟩, Hats, Hrt, Hlt⟩, HO⟩ Hk
  iapply (step_recv₀ T c K j 0 hR) $$ [HO Hat Hc]
  · isplitr; · iexact HI
    isplitr; · rw [MayWait_zero]; iempintro
    isplitl [HO]; · iexact HO
    isplitl [Hat] <;> iassumption
  iintro ⟨HO, Hat, Hb⟩
  ihave Hb2 := (tb_share c {inB j c} T).1 $$ Hb
  icases Hb2 with ⟨Hl, Hr⟩
  iapply Hk
  isplitr [HO]
  · isplitl [Hrest]; · iexact Hrest
    isplitl [Hat Hats]
    · isplitl [Hat] <;> iassumption
    isplitl [Hrt Hr]
    · iapply (tb_add c fullShare.right (got_step c j).1 (got_step c j).2 T)
      isplitl [Hrt] <;> iassumption
    · iapply (tb_add c fullShare.left (kept_step c j hj).1 (kept_step c j hj).2 T)
      isplitl [Hlt] <;> iassumption
  iexists _; iexact HO

/-- WAIT for the end of channel j's copy: its source's half share comes back. -/
theorem step_over (K : GSem nD τ sig → ℕ) (j : Ch) (n : ℕ) (hn : n = j.val)
    {sS : DmaSem sig} (hS : sS = sendS j)
    {off off' : Fin 2 → ℕ} {inb inb'} {hs hs'} {hsrc hdst}
    {k : PUnit → Prog (TpuEff nD τ sig (Elt F) Λ₀ .tc) α} :
    iprop(invs T K c ∗ WP T c n ∗ owes (c : Thread nD τ) 0 W)
      ⊢ iprop(((WP T c (n + 1) ∗ ∃ W, owes (c : Thread nD τ) 0 W) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS (tabM.slice (Rect.unit (s := S2048x1024) off S64x1024.size inb) hs)
            (tabM.slice (Rect.unit (s := S2048x1024) off' S64x1024.size inb') hs') hsrc hdst) k) Q) := by
  subst hn hS
  unfold WP
  rw [(from_step j).1, bigSep_ins (from_step j).2.1, (from_step j).2.2.1, bigSep_ins (from_step j).2.2.2]
  iintro ⟨#HI, ⟨⟨⟨Hat, Hc⟩, Hrest⟩, Hats, Hlt⟩, HO⟩
  ihave Hinv := (invs_at T K c j) $$ HI
  icases Hinv with ⟨#HIs, -, -, -⟩
  iintro Hk
  iapply (Rounds.wp_wait_rest_token 𝒱₀ ER (Rd T) (c : Thread nD τ) none (κ := K (sendCell j c))
      (wpE_waitDma2_eq (src := tabM.slice (Rect.unit (s := S2048x1024) off S64x1024.size inb) hs)
        (dst := tabM.slice (Rect.unit (s := S2048x1024) off' S64x1024.size inb') hs') 𝒱₀ (c : Thread nD τ) none Set.univ)
      (Set.mem_univ _) () (O := 0) (W := W) (R := 0) (m := 0) (T := ∅)
      ((Nat.zero_add _).trans (expect_send T c j).symm)) $$ [HO Hat Hc]
  · isplitr; · iexact HIs
    isplitl [Hc]; · iexact Hc
    isplitl [HO]; · iexact HO
    isplitr; · rw [MayWait_zero]; iempintro
    iexact Hat
  iintro ⟨HO, Hat, -, Hpay⟩
  ihave Hb := (Entails.of_eq (rest_send T c j)) $$ Hpay
  unfold sendPay
  iapply Hk
  isplitr [HO]
  · isplitl [Hrest]; · iexact Hrest
    isplitl [Hat Hats]
    · isplitl [Hat] <;> iassumption
    iapply (tb_add c fullShare.left (back_step c j).1 (back_step c j).2 T)
    isplitl [Hlt] <;> iassumption
  iexists _; iexact HO

/-- LOAD chunk ch of the table, any share of blocks that include it being held. -/
theorem step_load (q : PosShare TreeShare) (S : Finset (Fin 32)) (ch : Fin 4) (hS : ∀ b : Fin 32, b.val / 8 = ch.val → b ∈ S)
    {off : Fin 2 → ℕ} {inb} (h0 : off 0 = 512 * ch.val) (h1 : off 1 = 0) {hl}
    {k : (S512x1024.Idx → Elt F .bf16) → Prog (TpuEff nD τ sig (Elt F) Λ₀ .tc) α} :
    (tb c q S T) ⊢ iprop((tb c q S T -∗ wp frame (wpE (defs₀ (F := F)) 𝒱₀ (c : Thread nD τ) none) Set.univ (k (chunkT T ch)) Q)
        -∗ wp frame (wpE (defs₀ (F := F)) 𝒱₀ (c : Thread nD τ) none) Set.univ (.op (.load tabM (Rect.unit (s := S2048x1024) off S512x1024.size inb).toLoadRect hl) k) Q) := by
  have hsub : (tabM.access (Rect.unit (s := S2048x1024) off S512x1024.size inb)).set ⊆ rowsIn S :=
    (access_set_chunk ch h0).trans (rowsIn_mono fun b hb => hS b (Finset.mem_filter.mp hb).2)
  rw [← read_chunk (inb := inb) ch h0 h1 T]
  unfold tb
  exact wp_load_rect 𝒱₀ (c : Thread nD τ) none Set.univ (m := tabM) (r := Rect.unit (s := S2048x1024) off S512x1024.size inb) hsub

/-- The load of an own block before it is stored, whose value is not used. -/
theorem step_peek (e : Fin 8) (n : ℕ) (hn : n = e.val)
    {off : Fin 2 → ℕ} {inb} (h0 : off 0 = 64 * (ownB e c).val) (h1 : off 1 = 0) {hl}
    {k : (S64x1024.Idx → Elt F .bf16) → Prog (TpuEff nD τ sig (Elt F) Λ₀ .tc) α} :
    (OP T c n : sProp 𝕄) ⊢ iprop((∀ v, OP T c n -∗ wp frame (wpE (defs₀ (F := F)) 𝒱₀ (c : Thread nD τ) none) Set.univ (k v) Q)
        -∗ wp frame (wpE (defs₀ (F := F)) 𝒱₀ (c : Thread nD τ) none) Set.univ (.op (.load tabM (Rect.unit (s := S2048x1024) off S64x1024.size inb).toLoadRect hl) k) Q) := by
  subst hn
  unfold OP
  iintro ⟨⟨%f, Hf⟩, Hr⟩ Hk
  have hsub : (tabM.access (Rect.unit (s := S2048x1024) off S64x1024.size inb)).set ⊆ rowsIn (ownS c 8 \ ownS c e.val) := by
    rw [access_set (ownB e c) h0 h1, (own_step c e).2.2.2]
    exact rowsIn_mono (Finset.singleton_subset_iff.mpr (Finset.mem_insert_self _ _))
  unfold tb
  iapply (wp_load_rect 𝒱₀ (c : Thread nD τ) none Set.univ (m := tabM) (r := Rect.unit (s := S2048x1024) off S64x1024.size inb)
    (S := rowsIn (ownS c 8 \ ownS c e.val)) (q := fullShare) (f := f) hsub) $$ Hf
  iintro Hf
  iapply Hk
  isplitl [Hf]; · iexists f; iexact Hf
  iexact Hr

/-- STORE an own block at what the table finally holds there. -/
theorem step_store (e : Fin 8) (n : ℕ) (hn : n = e.val)
    {off : Fin 2 → ℕ} {inb} (h0 : off 0 = 64 * (ownB e c).val) (h1 : off 1 = 0)
    {w : S64x1024.Idx → Elt F .bf16} (hw : w = blkT T (ownB e c)) {hx hm}
    {k : PUnit → Prog (TpuEff nD τ sig (Elt F) Λ₀ .tc) α} :
    (OP T c n : sProp 𝕄) ⊢ iprop(((OP T c (n + 1) ∗ tb c fullShare.left {ownB e c} T) -∗ wp frame (wpE (defs₀ (F := F)) 𝒱₀ (c : Thread nD τ) none) Set.univ (k ⟨⟩) Q)
        -∗ wp frame (wpE (defs₀ (F := F)) 𝒱₀ (c : Thread nD τ) none) Set.univ (.op (.store tabM (Rect.unit (s := S2048x1024) off S64x1024.size inb) w Finset.univ hx hm) k) Q) := by
  subst hn
  unfold OP
  iintro ⟨⟨%f, Hf⟩, Hr⟩ Hk
  ihave Hf2 := (tb_off c fullShare (own_step c e).2.2.1 (own_step c e).2.2.2 f) $$ Hf
  icases Hf2 with ⟨Hf, Hb⟩
  iapply (wp_store 𝒱₀ (c : Thread nD τ) none Set.univ (m := tabM) (r := Rect.unit (s := S2048x1024) off S64x1024.size inb)
    (S := rowsIn {ownB e c}) (f := f) (Finset.Subset.antisymm_iff.mp (access_set (ownB e c) h0 h1)).1) $$ [Hb]
  · unfold tb; iexact Hb
  iintro Hb
  ihave Hb2 := (Entails.of_eq (pointsTo_congr (stored (ownB e c) h0 h1 f T w hw))) $$ Hb
  ihave Hb3 := (tb_share c {ownB e c} T).1 $$ [Hb2]
  · unfold tb; iexact Hb2
  icases Hb3 with ⟨Hl, Hr'⟩
  iapply Hk
  isplitr [Hl]
  · isplitl [Hf]; · iexists f; iexact Hf
    iapply (tb_add c fullShare.right (own_step c e).1 (own_step c e).2.1 T)
    isplitl [Hr] <;> iassumption
  iexact Hl

end Steps

end Cert.KernelIdeal.Hand
-- ==== Proof.Meet.lean ====
/- The meeting of neighbours at the barrier: what a device hands over with its two signals
   and what it gets from its wait. -/
module

public import proofs.«01_k».proof.Proof.Steps

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (T : Tab F)

theorem each_out {I : Type} (S : Finset I) (Φ Ψ : I → sProp (MT nD τ sig Unit (Elt F) ℕ UU ℕ)) :
    (bigSep S fun i => iprop(Φ i ∗ Ψ i)) ⊢ iprop(bigSep S Φ ∗ bigSep S Ψ) := Entails.of_eq (BI.bigSep_sep S Φ Ψ)
theorem each_in {I : Type} (S : Finset I) (Φ Ψ : I → sProp (MT nD τ sig Unit (Elt F) ℕ UU ℕ)) :
    iprop(bigSep S Φ ∗ bigSep S Ψ) ⊢ (bigSep S fun i => iprop(Φ i ∗ Ψ i)) := Entails.of_eq (BI.bigSep_sep S Φ Ψ).symm
theorem each_to {I : Type} (S : Finset I) (Φ Ψ : I → sProp (MT nD τ sig Unit (Elt F) ℕ UU ℕ)) (h : ∀ i, Φ i ⊢ Ψ i) :
    bigSep S Φ ⊢ bigSep S Ψ := BI.bigSep_mono fun i _ => h i

/-- What device c hands to the neighbour whose direction-d copies come in: the blocks they fill. -/
def give (c : Dev nD) (d : Fin 2) : sProp 𝕄 :=
  bigSep (Finset.univ.filter fun j : Ch => dir j = d) fun j =>
    iprop((∃ f : Tab F, tb c fullShare {inB j c} f) ∗ reached ER (recvCell j c) 0)

theorem give_eq (c : Dev nD) (d : Fin 2) : (give c d : sProp 𝕄) = barPay (org d c) d := by
  unfold give barPay
  refine BI.bigSep_congr fun j hj => ?_
  have hd : dir j = d := (Finset.mem_filter.mp hj).2
  have h1 : dst (dir j) (org d c) = c := by rw [hd, dst_org]
  have h2 : inB j c = srcB j (org d c) := by unfold inB; rw [hd]
  rw [h1, h2]

/-- The tokens of device c's copies. -/
def toks (c : Dev nD) : sProp 𝕄 :=
  bigSep Finset.univ fun j : Ch => iprop(dutyTok ER (sendCell j c) 0 0 ∗ dutyTok ER (recvCell j (dst (dir j) c)) 0 0)

/-- Tokens and what the barrier brings, made into the issuing state. -/
theorem ready (c : Dev nD) : iprop(toks (F := F) c ∗ bigSep Finset.univ fun j : Ch =>
        iprop((∃ f : Tab F, tb (dst (dir j) c) fullShare {srcB j c} f) ∗ reached ER (recvCell j (dst (dir j) c)) 0))
      ⊢ (iprop(SP c 0 ∗ opens c) : sProp 𝕄) := by
  unfold toks SP opens
  rw [after_zero, show sent 0 = ∅ from by decide]
  iintro ⟨Ht, Hp⟩
  ihave Hp := (each_out _ _ _) $$ Hp
  icases Hp with ⟨Hf, Hr⟩
  isplitr [Hr]
  · isplitl
    · ihave H := (each_in _ _ _) $$ [Ht Hf]
      · isplitl [Ht]; · iexact Ht
        iexact Hf
      iapply (each_to _ _ _ fun j => show _ ⊢ toSend (F := F) c j from by
        unfold toSend
        iintro ⟨⟨H1, H2⟩, H3⟩
        isplitl [H1]; · iexact H1
        isplitl [H2]; · iexact H2
        iexact H3) $$ H
    rw [BI.bigSep_empty]; iempintro
  iexact Hr

section Steps

variable (c : Dev nD) {α : Type} {Q : α → sProp (MT nD τ sig Unit (Elt F) ℕ UU ℕ)} {W : Waits sig Unit}

/-- SIGNAL a neighbour's barrier: it may fill the blocks its copies bring. -/
theorem step_signal (κ : ℕ) (d : Fin 2) (p : Dev nD) (hp : p = org d c) (O' O : CellTallies nD τ sig Unit)
    (hO : O = O' + tallyAt (barCell p) () 1) {q : Dev nD} (hq : q = p) {s : Sem sig} (hs : s = barS) {n : ℤ} (hn : n = 1)
    {k : PUnit → Prog (TpuEff nD τ sig (Elt F) Λ₀ .tc) α} :
    iprop(cellInv ER (Rd T) κ (barCell p) ∗ owes (c : Thread nD τ) O W ∗ dutyTok ER (barCell p) 0 d ∗ give c d ∗ reached ER (barCell p) 0)
      ⊢ iprop((owes (c : Thread nD τ) O' W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (q, .tc) s n) k) Q) := by
  subst hq hs hn
  iintro ⟨#HI, HO, Ht, Hg, #Hr⟩
  iintro Hk
  iapply (Rounds.wp_signal 𝒱₀ ER (Rd T) (c : Thread nD τ) none (dst := (q : Thread nD τ)) (sem := barS) (r := 0) (d := d) (κ := κ)
      (by rw [duties_bar]; exact Finset.mem_univ _) (amount_bar T q d) () O' hO) $$ [HO Ht Hg]
  · isplitr; · iexact HI
    isplitl [HO]; · iexact HO
    isplitl [Ht]; · iexact Ht
    isplitl [Hg]
    · rw [payload_bar]; subst hp; rw [← give_eq]; iexact Hg
    · iexact Hr
  iexact Hk

/-- WAIT for both neighbours: the blocks on them that device c's copies fill. -/
theorem step_meet (κ : ℕ) {s : Sem sig} (hs : s = barS) {n : ℤ} (hn : n = 2)
    {k : PUnit → Prog (TpuEff nD τ sig (Elt F) Λ₀ .tc) α} :
    iprop(cellInv ER (Rd T) κ (barCell c) ∗ levAts L lv ∗ owes (c : Thread nD τ) (owed c 0) W ∗ cred (tallyAt (barCell c) () 2)
        ∗ atPos ER (barCell c) 0 ∅ 0 ∗ toks (F := F) c)
      ⊢ iprop(((∃ W, owes (c : Thread nD τ) (owed c 0) W) ∗ atPos ER (barCell c) (0 + 1) ∅ 0 ∗ SP c 0 ∗ opens c
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait s n) k) Q) := by
  subst hs hn
  iintro ⟨#HI, #Hlev, HO, Hc, Hat, Ht⟩
  iintro Hk
  iapply (Rounds.wp_wait_rest_token 𝒱₀ ER (Rd T) (c : Thread nD τ) none (κ := κ)
      (wpE_semWait_eq 𝒱₀ (c : Thread nD τ) none Set.univ) (Set.mem_univ _) () (O := owed c 0) (W := W) (R := 0) (m := 0) (T := ∅)
      ((Nat.zero_add 2).trans (expect_bar T c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar T c)) $$ Hpay
  ihave Hs := (ready c) $$ [Ht Hp]
  · isplitl [Ht]; · iexact Ht
    iexact Hp
  icases Hs with ⟨HS, Hop⟩
  iapply Hk
  isplitl [HO]; · iexists _; iexact HO
  isplitl [Hat]; · iexact Hat
  isplitl [HS]; · iexact HS
  iexact Hop

end Steps

/-- A held table falls into device c's own blocks and those the copies bring. -/
theorem tb_each (c : Dev nD) (q : PosShare TreeShare) (f : Tab F) (S : Finset Ch) (g : Ch → Fin 32) (hg : Set.InjOn g S) :
    (tb c q (S.image g) f : sProp 𝕄) ⊢ bigSep S fun j => tb c q {g j} f := by
  induction S using Finset.induction_on with
  | empty => rw [Finset.image_empty, tb_empty, BI.bigSep_empty]
  | insert j S hj ih =>
    rw [Finset.image_insert, bigSep_ins hj]
    have hn : g j ∉ S.image g := by
      intro h
      obtain ⟨i, hi, he⟩ := Finset.mem_image.mp h
      exact hj ((hg (Finset.mem_coe.mpr (Finset.mem_insert_of_mem hi)) (Finset.mem_coe.mpr (Finset.mem_insert_self _ _)) he) ▸ hi)
    iintro H
    ihave H := (tb_off c q hn rfl f) $$ H
    icases H with ⟨H1, H2⟩
    isplitl [H2]; · iexact H2
    iapply (ih (hg.mono (Finset.coe_subset.mpr (Finset.subset_insert _ _)))); iexact H1

theorem own_rest (c : Dev nD) : (Finset.univ : Finset (Fin 32)) = ownS c 8 ∪ Finset.univ.image (fun j : Ch => inB j c)
    ∧ Disjoint (ownS c 8) (Finset.univ.image (fun j : Ch => inB j c)) ∧ Function.Injective (fun j : Ch => inB j c) := by
  revert c; decide +kernel

/-- The table as device c finds it: its own blocks, and what it gives to each neighbour. -/
theorem spread (c : Dev nD) (f : Tab F) :
    iprop(tb c fullShare Finset.univ f ∗ bigSep Finset.univ fun j : Ch => reached ER (recvCell j c) 0)
      ⊢ (iprop((∃ f, tb c fullShare (ownS c 8) f) ∗ give c 0 ∗ give c 1) : sProp 𝕄) := by
  have hU : (Finset.univ : Finset Ch) = (Finset.univ.filter fun j : Ch => dir j = 0) ∪ (Finset.univ.filter fun j : Ch => dir j = 1) := by decide
  have hD : Disjoint (Finset.univ.filter fun j : Ch => dir j = 0) (Finset.univ.filter fun j : Ch => dir j = 1) := by decide
  iintro ⟨H, Hr⟩
  ihave H := (Entails.of_eq (congrArg (fun S => tb c fullShare S f) (own_rest c).1)) $$ H
  ihave H := (tb_union c fullShare (own_rest c).2.1 f).1 $$ H
  icases H with ⟨Ho, Hi⟩
  isplitl [Ho]; · iexists f; iexact Ho
  ihave Hi := (tb_each c fullShare f Finset.univ (fun j => inB j c) ((own_rest c).2.2.injOn)) $$ Hi
  ihave H := (each_in Finset.univ (fun j : Ch => tb c fullShare {inB j c} f) (fun j : Ch => reached ER (recvCell j c) 0)) $$ [Hi Hr]
  · isplitl [Hi]; · iexact Hi
    iexact Hr
  ihave H := (each_to Finset.univ _ (fun j : Ch => iprop((∃ f : Tab F, tb c fullShare {inB j c} f) ∗ reached ER (recvCell j c) 0)) fun j => by
    iintro ⟨H1, H2⟩
    isplitl [H1]; · iexists f; iexact H1
    iexact H2) $$ H
  ihave H := (Entails.of_eq (by rw [hU, BI.bigSep_union hD]; rfl :
    (bigSep Finset.univ fun j : Ch => iprop((∃ f : Tab F, tb c fullShare {inB j c} f) ∗ reached ER (recvCell j c) 0)) = iprop(give c 0 ∗ give c 1))) $$ H
  iexact H

end Cert.KernelIdeal.Hand
-- ==== Proof.Weights.lean ====
/- The experts' weights on their way into the four slots of their buffer: what a device holds of each, and the steps that start a copy, wait for it and read the slot. -/
module

public import proofs.«01_k».proof.Proof.Meet

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- The weights a device holds, and a slot of the buffer they are brought into. -/
abbrev Wts (F : FTy → Type) : Type := S8x1024x1024.Idx → Elt F .f32
abbrev Slots (F : FTy → Type) : Type := S4x1024x1024.Idx → Elt F .f32

def slotIx (k : Fin 4) : Finset S4x1024x1024.Idx := Finset.univ.filter fun i => (i 0).val = k.val
def expIx (e : Fin 8) : Finset S8x1024x1024.Idx := Finset.univ.filter fun i => (i 0).val = e.val

/-- Entry (r, j) of expert e, found in the place of an entry of the slots. -/
def atE (e : Fin 8) (i : S4x1024x1024.Idx) : S8x1024x1024.Idx := fun
  | 0 => ⟨e.val, e.2⟩
  | 1 => ⟨(i 1).val, (i 1).2⟩
  | 2 => ⟨(i 2).val, (i 2).2⟩
/-- Expert e as a slot's load reads it. -/
def expert (w : Wts F) (e : Fin 8) : S1x1024x1024.Idx → Elt F .f32 := fun x => w fun
  | 0 => ⟨e.val, e.2⟩
  | 1 => ⟨(x 1).val, (x 1).2⟩
  | 2 => ⟨(x 2).val, (x 2).2⟩

def slotP (c : Dev nD) (k : Fin 4) (f : Slots F) : sProp 𝕄 :=
  (Memref.whole cc0_scratch4).view.loc (c : Thread nD τ) ↦[slotIx k]{fullShare} f
/-- Slot k at expert e. -/
def slotW (w : Wts F) (c : Dev nD) (k : Fin 4) (e : Fin 8) : sProp 𝕄 := slotP c k fun i => w (atE e i)
def srcW (w : Wts F) (c : Dev nD) (e : Fin 8) : sProp 𝕄 :=
  (Memref.whole main_arg3).view.loc (c : Thread nD τ) ↦[expIx e]{fullShare} w

abbrev slotM (off : Fin 3 → ℕ) (inb : ∀ a, off a + S1x1024x1024.size a ≤ S4x1024x1024.size a)
    (hs : ∀ a, (Rect.unit (s := S4x1024x1024) off S1x1024x1024.size inb).stride a = 1) : Memref sig .tc .vmem S1024x1024 .f32 :=
  ((Memref.whole cc0_scratch4).slice (Rect.unit (s := S4x1024x1024) off S1x1024x1024.size inb) hs).squeeze S1024x1024 Gen.squeezes_S1x1024x1024_S1024x1024
abbrev srcM (off : Fin 3 → ℕ) (inb : ∀ a, off a + S1x1024x1024.size a ≤ S8x1024x1024.size a)
    (hs : ∀ a, (Rect.unit (s := S8x1024x1024) off S1x1024x1024.size inb).stride a = 1) : Memref sig .tc .hbm S1024x1024 .f32 :=
  ((Memref.whole main_arg3).slice (Rect.unit (s := S8x1024x1024) off S1x1024x1024.size inb) hs).squeeze S1024x1024 Gen.squeezes_S1x1024x1024_S1024x1024

theorem slot_rect {off : Fin 3 → ℕ} {inb} (k : Fin 4) (h0 : off 0 = k.val) :
    (Rect.unit (s := S4x1024x1024) off S1x1024x1024.size inb).set = slotIx k := by
  have i1 := inb 1; have i2 := inb 2
  have i1' : off 1 + 1024 ≤ 1024 := i1
  have i2' : off 2 + 1024 ≤ 1024 := i2
  ext i
  rw [Rect.mem_set_unit]
  unfold slotIx; rw [Finset.mem_filter]
  have h1 : (i 1).val < 1024 := (i 1).2
  have h2 : (i 2).val < 1024 := (i 2).2
  constructor
  · intro h
    have a : off 0 ≤ (i 0).val ∧ (i 0).val < off 0 + 1 := h 0
    exact ⟨Finset.mem_univ _, by omega⟩
  · rintro ⟨-, h⟩ a
    match a with
    | 0 => show off 0 ≤ (i 0).val ∧ (i 0).val < off 0 + 1; omega
    | 1 => show off 1 ≤ (i 1).val ∧ (i 1).val < off 1 + 1024; omega
    | 2 => show off 2 ≤ (i 2).val ∧ (i 2).val < off 2 + 1024; omega

theorem exp_rect {off : Fin 3 → ℕ} {inb} (e : Fin 8) (h0 : off 0 = e.val) :
    (Rect.unit (s := S8x1024x1024) off S1x1024x1024.size inb).set = expIx e := by
  have i1 := inb 1; have i2 := inb 2
  have i1' : off 1 + 1024 ≤ 1024 := i1
  have i2' : off 2 + 1024 ≤ 1024 := i2
  ext i
  rw [Rect.mem_set_unit]
  unfold expIx; rw [Finset.mem_filter]
  have h1 : (i 1).val < 1024 := (i 1).2
  have h2 : (i 2).val < 1024 := (i 2).2
  constructor
  · intro h
    have a : off 0 ≤ (i 0).val ∧ (i 0).val < off 0 + 1 := h 0
    exact ⟨Finset.mem_univ _, by omega⟩
  · rintro ⟨-, h⟩ a
    match a with
    | 0 => show off 0 ≤ (i 0).val ∧ (i 0).val < off 0 + 1; omega
    | 1 => show off 1 ≤ (i 1).val ∧ (i 1).val < off 1 + 1024; omega
    | 2 => show off 2 ≤ (i 2).val ∧ (i 2).val < off 2 + 1024; omega

theorem slot_set {off : Fin 3 → ℕ} {inb hs} (k : Fin 4) (h0 : off 0 = k.val) : (slotM off inb hs).view.set = slotIx k :=
  (View.set_reshape _ _).trans ((View.set_slice_whole cc0_scratch4 _).trans (slot_rect k h0))
theorem exp_set {off : Fin 3 → ℕ} {inb hs} (e : Fin 8) (h0 : off 0 = e.val) : (srcM off inb hs).view.set = expIx e :=
  (View.set_reshape _ _).trans ((View.set_slice_whole main_arg3 _).trans (exp_rect e h0))

/-- What the copy of expert e leaves in slot k. -/
theorem w_landed {off off' : Fin 3 → ℕ} {inb inb' hs hs'} (k : Fin 4) (h0 : off 0 = k.val) (h1 : off 1 = 0) (h2 : off 2 = 0)
    (e : Fin 8) (g0 : off' 0 = e.val) (g1 : off' 1 = 0) (g2 : off' 2 = 0) (fd : Slots F) (w : Wts F) :
    ∀ i ∈ slotIx k, (slotM off inb hs).view.write (Elt F) fd ((srcM off' inb' hs').view.read (Elt F) w) Finset.univ i = w (atE e i) := by
  intro i hi
  rw [← slot_set (inb := inb) (hs := hs) k h0] at hi
  obtain ⟨x, -, rfl⟩ := Finset.mem_map.mp hi
  rw [View.write_emb_of_mem _ _ (Finset.mem_univ x), View.read_apply, cast_cast, cast_eq]
  refine congrArg w ?_
  let y : S1x1024x1024.Idx := Shape.reshapeEquiv Gen.squeezes_S1x1024x1024_S1024x1024.numel_eq x
  have hy : (y 0).val < 1 := (y 0).2
  have e1 : ∀ a, ((srcM off' inb' hs').view.emb x a).val = off' a + 1 * (y a).val := fun a => rfl
  have e2 : ∀ a, ((slotM off inb hs).view.emb x a).val = off a + 1 * (y a).val := fun a => rfl
  funext a; apply Fin.ext
  match a with
  | 0 => rw [e1 0]; show _ = e.val; omega
  | 1 => rw [e1 1]; show _ = ((slotM off inb hs).view.emb x 1).val; rw [e2 1]; omega
  | 2 => rw [e1 2]; show _ = ((slotM off inb hs).view.emb x 2).val; rw [e2 2]; omega

theorem w_read {off : Fin 3 → ℕ} {inb} (e : Fin 8) (h1 : off 1 = 0) (h2 : off 2 = 0) (w : Wts F) :
    (Memref.whole cc0_scratch4).view.readAt (Elt F) (Rect.unit (s := S4x1024x1024) off S1x1024x1024.size inb).toLoadRect (fun i => w (atE e i)) = expert w e := by
  funext x
  show w (atE e ((Rect.unit (s := S4x1024x1024) off S1x1024x1024.size inb).emb x)) = _
  refine congrArg w ?_
  funext a; apply Fin.ext
  match a with
  | 0 => rfl
  | 1 => show off 1 + 1 * (x 1).val = (x 1).val; omega
  | 2 => show off 2 + 1 * (x 2).val = (x 2).val; omega

/-- The credit of one expert's copy. -/
abbrev NW : ℕ := (slotM (fun _ => 0) (by decide) (fun _ => rfl)).view.dmaCredit
theorem NW_pos : 0 < NW := View.dmaCredit_pos _ (by decide)

abbrev wS (k : Fin 4) : DmaSem sig := (⟨4 + k.val, by have := k.2; omega⟩ : Fin 56)

/-- Expert e on its way into slot k. -/
def flyW (w : Wts F) (c : Dev nD) (k : Fin 4) (e : Fin 8) : sProp 𝕄 :=
  Transfers.Flight countersEmb (c : Thread nD τ) (.dma (wS k)) () NW iprop(slotW w c k e ∗ srcW w c e)
/-- Slot k at rest, at anything. -/
def idleW (c : Dev nD) (k : Fin 4) : sProp 𝕄 := iprop((∃ f : Slots F, slotP c k f) ∗ semVal ((c : Thread nD τ), .dma (wS k)) 0)

section Steps

variable (w : Wts F) (c : Dev nD) {α : Type} {Q : α → sProp (MT nD τ sig Unit (Elt F) ℕ UU ℕ)} {W : Waits sig Unit}

/-- START the copy of expert e into slot k. -/
theorem step_fetch (k : Fin 4) (e : Fin 8) {off off' : Fin 3 → ℕ} {inb inb' hs hs'} (h0 : off 0 = k.val) (h1 : off 1 = 0) (h2 : off 2 = 0)
    (g0 : off' 0 = e.val) (g1 : off' 1 = 0) (g2 : off' 2 = 0) {s : DmaSem sig} (hsem : s = wS k) {hsrc hdst ht}
    {K : PUnit → Prog (TpuEff nD τ sig (Elt F) Λ₀ .tc) α} :
    iprop(idleW (F := F) c k ∗ srcW w c e)
      ⊢ iprop((flyW w c k e -∗ wp frame (wpE (defs₀ (F := F)) 𝒱₀ (c : Thread nD τ) none) Set.univ (K ⟨⟩) Q)
        -∗ wp frame (wpE (defs₀ (F := F)) 𝒱₀ (c : Thread nD τ) none) Set.univ
          (.op (.enqueueDma (srcM off' inb' hs') (.here (slotM off inb hs)) (.dma s) hsrc hdst ht) K) Q) := by
  subst hsem
  unfold idleW
  iintro ⟨⟨⟨%fd, Hd⟩, Hv⟩, Hs⟩ Hk
  iapply (Transfers.wp_dmaLocal countersEmb 𝒱₀ (c : Thread nD τ) none (src := srcM off' inb' hs') (dst := slotM off inb hs) (via := .same)
    (q := fullShare) (fs := w) (Sd := slotIx k) (fd := fd) () NW rfl NW_pos (slot_set (hs := hs) k h0).le) $$ [Hd Hv Hs]
  · isplitl [Hs]
    · rw [exp_set (hs := hs') e g0]; unfold srcW; iexact Hs
    isplitl [Hd]
    · unfold slotP; iexact Hd
    iexact Hv
  iintro Hf
  iapply Hk
  unfold flyW slotW slotP srcW
  have hD : ((slotM off inb hs).view.loc (c : Thread nD τ) ↦[slotIx k]{fullShare}
        ((slotM off inb hs).view.write (Elt F) fd ((ReadAs.same (Val := Elt F)).apply ((srcM off' inb' hs').view.read (Elt F) w)) Finset.univ) : sProp 𝕄)
      = ((Memref.whole cc0_scratch4).view.loc (c : Thread nD τ) ↦[slotIx k]{fullShare} fun i => w (atE e i)) :=
    pointsTo_congr (w_landed k h0 h1 h2 e g0 g1 g2 fd w)
  rw [hD, exp_set (hs := hs') e g0]
  iexact Hf

/-- WAIT for the copy of expert e, low among what is still owed. -/
theorem step_arrive (k : Fin 4) (e : Fin 8) (n : ℕ) {off off' : Fin 3 → ℕ} {inb inb' hs hs'}
    {s : DmaSem sig} (hsem : s = wS k) {hsrc hdst}
    {K : PUnit → Prog (TpuEff nD τ sig (Elt F) Λ₀ .tc) α} :
    iprop(flyW w c k e ∗ levAts L lv ∗ owes (c : Thread nD τ) (owed c n) W)
      ⊢ iprop(((slotW w c k e ∗ srcW w c e ∗ semVal ((c : Thread nD τ), .dma (wS k)) 0 ∗ (∃ W, owes (c : Thread nD τ) (owed c n) W))
          -∗ wp frame (wpE (defs₀ (F := F)) 𝒱₀ (c : Thread nD τ) none) Set.univ (K ⟨⟩) Q)
        -∗ wp frame (wpE (defs₀ (F := F)) 𝒱₀ (c : Thread nD τ) none) Set.univ
          (.op (.waitDma2 s (srcM off' inb' hs') (slotM off inb hs) hsrc hdst) K) Q) := by
  subst hsem
  unfold flyW
  iintro ⟨Hf, #Hlev, HO⟩ Hk
  iapply (Transfers.wp_waitLocalO countersEmb 𝒱₀ (c : Thread nD τ) none (srcw := srcM off' inb' hs') (dstw := slotM off inb hs) () (N := NW) rfl) $$ [Hf HO]
  · isplitl [Hf]; · iexact Hf
    isplitl [HO]; · iexact HO
    iapply (mayWait_low c n ⟨4 + k.val, by have := k.2; omega⟩); iexact Hlev
  iintro ⟨⟨Hd, Hs⟩, Hv, HO⟩
  iapply Hk
  isplitl [Hd]; · iexact Hd
  isplitl [Hs]; · iexact Hs
  isplitl [Hv]; · iexact Hv
  iexists _; iexact HO

/-- LOAD the slot expert e has come into. -/
theorem step_expert (k : Fin 4) (e : Fin 8) {off : Fin 3 → ℕ} {inb} (h0 : off 0 = k.val) (h1 : off 1 = 0) (h2 : off 2 = 0) {hl}
    {K : (S1x1024x1024.Idx → Elt F .f32) → Prog (TpuEff nD τ sig (Elt F) Λ₀ .tc) α} :
    (slotW w c k e : sProp 𝕄)
      ⊢ iprop((slotW w c k e -∗ wp frame (wpE (defs₀ (F := F)) 𝒱₀ (c : Thread nD τ) none) Set.univ (K (expert w e)) Q)
        -∗ wp frame (wpE (defs₀ (F := F)) 𝒱₀ (c : Thread nD τ) none) Set.univ
          (.op (.load (Memref.whole cc0_scratch4) (Rect.unit (s := S4x1024x1024) off S1x1024x1024.size inb).toLoadRect hl) K) Q) := by
  rw [← w_read (inb := inb) e h1 h2 w]
  unfold slotW slotP
  exact wp_load_rect 𝒱₀ (c : Thread nD τ) none Set.univ (m := Memref.whole cc0_scratch4) (r := Rect.unit (s := S4x1024x1024) off S1x1024x1024.size inb)
    ((View.set_slice_whole cc0_scratch4 _).trans (slot_rect k h0)).le

end Steps

theorem slots_all : (Finset.univ : Finset S4x1024x1024.Idx) = Finset.univ.biUnion slotIx := by
  ext i; simp only [Finset.mem_univ, Finset.mem_biUnion, true_and, true_iff]
  exact ⟨⟨(i 0).val, (i 0).2⟩, Finset.mem_filter.mpr ⟨Finset.mem_univ _, rfl⟩⟩
theorem exps_all : (Finset.univ : Finset S8x1024x1024.Idx) = Finset.univ.biUnion expIx := by
  ext i; simp only [Finset.mem_univ, Finset.mem_biUnion, true_and, true_iff]
  exact ⟨⟨(i 0).val, (i 0).2⟩, Finset.mem_filter.mpr ⟨Finset.mem_univ _, rfl⟩⟩

/-- The slots' buffer as its four slots, and the weights as the eight experts. -/
theorem slots_split (c : Dev nD) (f : Slots F) :
    (((Memref.whole cc0_scratch4).view.loc (c : Thread nD τ) ↦{fullShare} f) : sProp 𝕄) = bigSep Finset.univ fun k => slotP c k f := by
  unfold slotP
  rw [slots_all]
  exact pointsTo_biUnion _ _ fun i _ j _ h => Finset.disjoint_left.mpr fun x hx hy =>
    h (Fin.ext ((Finset.mem_filter.mp hx).2.symm.trans (Finset.mem_filter.mp hy).2))
theorem exps_split (w : Wts F) (c : Dev nD) :
    (((Memref.whole main_arg3).view.loc (c : Thread nD τ) ↦{fullShare} w) : sProp 𝕄) = bigSep Finset.univ fun e => srcW w c e := by
  unfold srcW
  rw [exps_all]
  exact pointsTo_biUnion _ _ fun i _ j _ h => Finset.disjoint_left.mpr fun x hx hy =>
    h (Fin.ext ((Finset.mem_filter.mp hx).2.symm.trans (Finset.mem_filter.mp hy).2))

end Cert.KernelIdeal.Hand
-- ==== Proof.Tails.lean ====
/- The body's text from two of its points on, each under a name of its own, so that a run of the body can be proved in three stretches. -/
module

public import proofs.«01_k».proof.Proof.Weights

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

open Cert.KernelIdeal.Gen

/-- The body from the landing of all the copies' issue on: the hops, the combines, the waits. -/
def tail23 (d0 : Dev nD) (v2 v4 v6 : BitVec 32) (v788 : Vec F S512x1 .i32) (v789 : IVec S512x512 32) (v805 v807 : BitVec 32) :
    Prog (TpuEff nD τ sig (Elt F) Λ₀ .tc) (Σ' (d0 : Dev nD), BitVec 32) := do
  k0_part23 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v4 v6 v805 v807
  k0_part24 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v4 v6 v805 v807
  k0_part25 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v4 v6 v805 v807
  k0_part26 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v4 v6 v805 v807
  k0_part27 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v4 v6 v805 v807
  let ⟨v954, v956⟩ : Σ' (v954 : BitVec 32), BitVec 32 ← k0_part28 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2 v4 v6
  k0_part29 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v4 v6 v954 v956
  k0_part30 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v4 v6 v954 v956
  k0_part31 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v4 v6 v954 v956
  k0_part32 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v4 v6 v954 v956
  let ⟨v1110, v1111⟩ : Σ' (v1110 : FVec F S512x512 .bf16), BitVec 32 ← k0_part33 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2 v4 v788 v789 v956
  let ⟨v1120, v1123⟩ : Σ' (v1120 : BitVec 32), BitVec 32 ← k0_part34 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2 v4 v6 v1110 v1111
  let c512_i32_808 : BitVec 32 ← k0_part35 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v4 v6 v1120 v1123
  let v1190 : IVec S512x512 32 ← k0_part36 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v4 v6 v789 v1120 v1123 c512_i32_808
  let ⟨v1222, v1224⟩ : Σ' (v1222 : BitVec 32), BitVec 32 ← k0_part37 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2 v788 v789 v1120 v1123 v1190
  k0_part38 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v1222 v1224
  k0_part39 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v1222 v1224
  let ⟨v1275, v1277⟩ : Σ' (v1275 : BitVec 32), BitVec 32 ← k0_part40 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2
  k0_part41 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v1275 v1277
  let ⟨v1328, v1330⟩ : Σ' (v1328 : BitVec 32), BitVec 32 ← k0_part42 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2 v1277
  k0_part43 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v1328 v1330
  let v1363 : DmaSems sig S1x1 := cc0_scratch8.slice (Rect.unit (s := S3x4) ![2, 2] S1x1.size inb_S3x4_S1x1_2_2)
  let v1364 : DmaSems sig S_ := v1363.squeeze S_ squeezes_S1x1_S_
  let v1365 : Memref sig .tc .vmem S64x1024 .bf16 := (Memref.whole cc0_scratch0).slice (Rect.unit (s := S2048x1024) (k0_off6 d0 2#32 384#32) S64x1024.size (k0_off6_inb d0 6)) (fun _ => rfl)
  let v1366 : Memref sig .tc .vmem S64x1024 .bf16 := (Memref.whole cc0_scratch0).slice (Rect.unit (s := S2048x1024) (k0_off6 d0 2#32 384#32) S64x1024.size (k0_off6_inb d0 6)) (fun _ => rfl)
  Prog.lift (.waitDma2 v1364.sem v1366 v1365 ((Memref.isWhole_whole cc0_scratch0).wordExact_slice rfl _ (k0_off6_wordsbf16 d0 6)) ((Memref.isWhole_whole cc0_scratch0).wordExact_slice rfl _ (k0_off6_wordsbf16 d0 6)))
  pure ⟨d0, v1330⟩

/-- The body from the store of the dispatched rows on. -/
def tail14 (d0 : Dev nD) (v2 v4 v6 v7 : BitVec 32) (v542 : FVec F S512x1024 .bf16) (v543 : Vec F S512x1024 .bf16) :
    Prog (TpuEff nD τ sig (Elt F) Λ₀ .tc) (Σ' (d0 : Dev nD), BitVec 32) := do
  let c1_i32_224 : BitVec 32 ← k0_part14 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2 v7 v542 v543
  k0_part15 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v6 v7 c1_i32_224
  k0_part16 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2 v6 v7
  let v656 : FVec F S64x1024 .bf16 ← k0_part17 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2 v6 v7
  let ⟨v684, v685⟩ : Σ' (v684 : Vec F S64x1024 .bf16), Vec F S1x1024x1024 .f32 ← k0_part18 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2 v6 v656
  let v716 : FVec F S64x1024 .bf16 ← k0_part19 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2 v4 v7 v684 v685
  let ⟨v743, v746⟩ : Σ' (v743 : FVec F S64x1024 .bf16), Vec F S64x1024 .bf16 ← k0_part20 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2 v4 v7 v716
  let v776 : BitVec 32 ← k0_part21 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2 v4 v7 v743 v746
  let ⟨v788, v789, v805, v807⟩ : Σ' (v788 : Vec F S512x1 .i32) (v789 : IVec S512x512 32) (v805 : BitVec 32), BitVec 32 ← k0_part22 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 d0 v2 v4 v776
  tail23 d0 v2 v4 v6 v788 v789 v805 v807

/-- The body as its two tails: by unfolding. -/
theorem part44_tails : k0_part44 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 = (do
  let ⟨d0, v2, v4, v6, v7⟩ : Σ' (d0 : Dev nD) (v2 : BitVec 32) (v4 : BitVec 32) (v6 : BitVec 32), BitVec 32 ← k0_part1 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9
  let ⟨v42, v46, v47, v50, v58, v63⟩ : Σ' (v42 : FVec F S256x256 .bf16) (v46 : FVec F S256x256 .bf16) (v47 : IVec S256x32 32) (v50 : IVec S256x1 32) (v58 : FVec F S256x32 .f32), FVec F S256x1 .f32 ← k0_part2 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9
  let ⟨v88, v104⟩ : Σ' (v88 : FVec F S256x32 .f32), IVec S256x1 32 ← k0_part3 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v42 v47 v50 v58 v63
  let ⟨v140, v148, v151⟩ : Σ' (v140 : IVec S256x1 32) (v148 : FVec F S256x32 .f32), FVec F S256x32 .f32 ← k0_part4 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v42 v47 v88 v104
  let ⟨v178, v194⟩ : Σ' (v178 : FVec F S256x32 .f32), IVec S256x1 32 ← k0_part5 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v42 v47 v140 v148 v151
  let ⟨v230, v232, v238⟩ : Σ' (v230 : IVec S256x1 32) (v232 : IVec S256x32 1), FVec F S256x32 .f32 ← k0_part6 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v42 v47 v178 v194
  let ⟨v277, v281, v282⟩ : Σ' (v277 : IVec S256x1 1) (v281 : FVec F S256x1 .f32), FVec F S256x1 .f32 ← k0_part7 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v42 v47 v230 v232 v238
  let ⟨v288, v319, v321, v323, v325⟩ : Σ' (v288 : IVec S32x256 32) (v319 : FVec F S32x1 .f32) (v321 : IVec S1x256 32) (v323 : IVec S32x256 1), FVec F S32x256 .f32 ← k0_part8 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v46 v277 v281 v282
  let ⟨v359, v366, v368, v369, cst_135⟩ : Σ' (v359 : FVec F S32x256 .f32) (v366 : FVec F S1x256 .f32) (v368 : IVec S1x256 1) (v369 : FVec F S1x256 .f32), F .f32 ← k0_part9 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v46 v288 v319 v321 v323 v325
  let ⟨v409, v411, v412⟩ : Σ' (v409 : FVec F S32x1 .f32) (v411 : IVec S1x256 32), IVec S32x256 32 ← k0_part10 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v46 v288 v359 v366 v368 v369 cst_135
  let ⟨v441, v449, v456, v457⟩ : Σ' (v441 : IVec S1x256 32) (v449 : FVec F S32x256 .f32) (v456 : FVec F S1x256 .f32), FVec F S1x256 .f32 ← k0_part11 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v46 v288 v409 v411 v412
  let v499 : FVec F S32x1 .f32 ← k0_part12 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v46 v288 v441 v449 v456 v457
  let ⟨v542, v543⟩ : Σ' (v542 : FVec F S512x1024 .bf16), Vec F S512x1024 .bf16 ← k0_part13 (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 v7 v46 v288 v499
  tail14 d0 v2 v4 v6 v7 v542 v543) := rfl

attribute [irreducible] tail14 tail23

end Cert.KernelIdeal.Hand
-- ==== Proof.Walk.lean ====
/- The body's progress as a few states, one for each stretch, and the steps that carry a state forward: filling the own blocks, passing blocks on, waiting for the copies' ends. -/
module

public import proofs.«01_k».proof.Proof.Tails

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

theorem inv_ins {I : Type} [DecidableEq I] {s t : Finset I} {i : I} (h : t = insert i s) (hi : i ∉ s) (Φ : I → sProp 𝕄) :
    bigSep t Φ = iprop(Φ i ∗ bigSep s Φ) := by subst h; exact BI.bigSep_insert hi

/-! ## While the table's own blocks are made -/

def ivl (a b : ℕ) : Finset (Fin 8) := Finset.univ.filter fun i => a ≤ i.val ∧ i.val < b
def lane (e : Fin 8) : Fin 4 := ⟨e.val % 4, Nat.mod_lt _ (by decide)⟩
/-- The slots no expert of a to b is in. -/
def free (a b : ℕ) : Finset (Fin 4) := Finset.univ.filter fun k => ∀ i ∈ ivl a b, lane i ≠ k
/-- The channel own block e goes out on first. -/
def chan (e : Fin 8) : Ch := ⟨if e.val < 4 then 2 * e.val else 2 * (e.val - 4) + 1, by have := e.2; split <;> omega⟩

theorem ivl_top (e : Fin 8) (a : ℕ) (h : a ≤ e.val) : ivl a (e.val + 1) = insert e (ivl a e.val) ∧ e ∉ ivl a e.val := by
  have key : ∀ (e : Fin 8) (a : Fin 9), a.val ≤ e.val → ivl a.val (e.val + 1) = insert e (ivl a.val e.val) ∧ e ∉ ivl a.val e.val := by decide +kernel
  exact key e ⟨a, by omega⟩ h
theorem ivl_bot (e : Fin 8) (b : ℕ) (h : e.val < b) (hb : b ≤ 8) : ivl e.val b = insert e (ivl (e.val + 1) b) ∧ e ∉ ivl (e.val + 1) b := by
  have key : ∀ (e : Fin 8) (b : Fin 9), e.val < b.val → b.val ≤ 8 → ivl e.val b.val = insert e (ivl (e.val + 1) b.val) ∧ e ∉ ivl (e.val + 1) b.val := by decide +kernel
  exact key e ⟨b, by omega⟩ h hb
theorem ivl_out_top (e : Fin 8) (a : ℕ) (h : a ≤ e.val) : Finset.univ \ ivl a e.val = insert e (Finset.univ \ ivl a (e.val + 1)) ∧ e ∉ Finset.univ \ ivl a (e.val + 1) := by
  have key : ∀ (e : Fin 8) (a : Fin 9), a.val ≤ e.val → Finset.univ \ ivl a.val e.val = insert e (Finset.univ \ ivl a.val (e.val + 1)) ∧ e ∉ Finset.univ \ ivl a.val (e.val + 1) := by decide +kernel
  exact key e ⟨a, by omega⟩ h
theorem ivl_out_bot (e : Fin 8) (b : ℕ) (h : e.val < b) (hb : b ≤ 8) : Finset.univ \ ivl (e.val + 1) b = insert e (Finset.univ \ ivl e.val b) ∧ e ∉ Finset.univ \ ivl e.val b := by
  have key : ∀ (e : Fin 8) (b : Fin 9), e.val < b.val → b.val ≤ 8 → Finset.univ \ ivl (e.val + 1) b.val = insert e (Finset.univ \ ivl e.val b.val) ∧ e ∉ Finset.univ \ ivl e.val b.val := by decide +kernel
  exact key e ⟨b, by omega⟩ h hb
theorem free_top (e : Fin 8) (a : ℕ) (h : a ≤ e.val) (h' : e.val < a + 4) : free a e.val = insert (lane e) (free a (e.val + 1)) ∧ lane e ∉ free a (e.val + 1) := by
  have key : ∀ (e : Fin 8) (a : Fin 9), a.val ≤ e.val → e.val < a.val + 4 → free a.val e.val = insert (lane e) (free a.val (e.val + 1)) ∧ lane e ∉ free a.val (e.val + 1) := by decide +kernel
  exact key e ⟨a, by omega⟩ h h'
theorem free_bot (e : Fin 8) (b : ℕ) (h : e.val < b) (hb : b ≤ 8) (h' : b ≤ e.val + 4) : free (e.val + 1) b = insert (lane e) (free e.val b) ∧ lane e ∉ free e.val b := by
  have key : ∀ (e : Fin 8) (b : Fin 9), e.val < b.val → b.val ≤ 8 → b.val ≤ e.val + 4 → free (e.val + 1) b.val = insert (lane e) (free e.val b.val) ∧ lane e ∉ free e.val b.val := by decide +kernel
  exact key e ⟨b, by omega⟩ h hb h'
theorem chan_pos (e : Fin 8) : pos (chan e) = e.val := by revert e; decide
theorem chan_src (e : Fin 8) (c : Dev nD) : srcB (chan e) c = ownB e c := by revert e c; decide

variable (T : Tab F) (w : Wts F) (c : Dev nD) (K : GSem nD τ sig → ℕ)

/-- What is known throughout. -/
def env : sProp 𝕄 := iprop(invs T K c ∗ opens c ∗ levAts L lv)
instance : BI.Persistent (env T c K : sProp 𝕄) := by unfold env; infer_instance
/-- What device c owes before its n-th copy, whatever it has waited for. -/
def owing (n : ℕ) : sProp 𝕄 := iprop(∃ W, owes (c : Thread nD τ) (owed c n) W)

/-- n copies out, m own blocks stored, experts lo to hi on their way, those of lo' to lo come
    into their slots and not read. -/
def Fill (n m lo' lo hi : ℕ) : sProp 𝕄 :=
  iprop(env T c K ∗ SP c n ∗ owing c n ∗ OP T c m ∗ bigSep (ivl n m) (fun e => tb c fullShare.left {ownB e c} T)
    ∗ bigSep (ivl lo hi) (fun e => flyW w c (lane e) e)
    ∗ bigSep (Finset.univ \ ivl lo hi) (fun e => srcW w c e)
    ∗ bigSep (ivl lo' lo) (fun e => iprop(slotW w c (lane e) e ∗ semVal ((c : Thread nD τ), .dma (wS (lane e))) 0))
    ∗ bigSep (free lo' hi) (fun k => idleW (F := F) c k))

section Steps

variable {α : Type} {Q : α → sProp (MT nD τ sig Unit (Elt F) ℕ UU ℕ)}

theorem fill_fetch (e : Fin 8) (n m lo a b : ℕ) (ha : a = e.val) (hb : b = e.val + 1) (h : lo ≤ e.val) (h' : e.val < lo + 4) {off off' : Fin 3 → ℕ} {inb inb' hs hs'}
    (h0 : off 0 = (lane e).val) (h1 : off 1 = 0) (h2 : off 2 = 0)
    (g0 : off' 0 = e.val) (g1 : off' 1 = 0) (g2 : off' 2 = 0) {s : DmaSem sig} (hsem : s = wS (lane e)) {hsrc hdst ht}
    {k : PUnit → Prog (TpuEff nD τ sig (Elt F) Λ₀ .tc) α} :
    (Fill T w c K n m lo lo a)
      ⊢ iprop((Fill T w c K n m lo lo b -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (srcM off' inb' hs') (.here (slotM off inb hs)) (.dma s) hsrc hdst ht) k) Q) := by
  subst ha hb
  unfold Fill
  rw [inv_ins (ivl_top e lo h).1 (ivl_top e lo h).2, inv_ins (ivl_out_top e lo h).1 (ivl_out_top e lo h).2,
    inv_ins (free_top e lo h h').1 (free_top e lo h h').2]
  iintro ⟨#HE, HS, HO, HP, Hl, Hf, ⟨He, Hs⟩, Ha, ⟨Hi, Hr⟩⟩ Hk
  iapply (step_fetch w c (lane e) e h0 h1 h2 g0 g1 g2 hsem) $$ [Hi He]
  · isplitl [Hi] <;> iassumption
  iintro Hn
  iapply Hk
  isplitr; · iexact HE
  isplitl [HS]; · iexact HS
  isplitl [HO]; · iexact HO
  isplitl [HP]; · iexact HP
  isplitl [Hl]; · iexact Hl
  isplitl [Hn Hf]
  · isplitl [Hn] <;> iassumption
  isplitl [Hs]; · iexact Hs
  isplitl [Ha] <;> iassumption

theorem fill_arrive (e : Fin 8) (n m hi a a' b : ℕ) (ha : a = e.val) (ha' : a' = e.val) (hb' : b = e.val + 1) (h : e.val < hi) (hb : hi ≤ 8) {off off' : Fin 3 → ℕ} {inb inb' hs hs'}
    {s : DmaSem sig} (hsem : s = wS (lane e)) {hsrc hdst}
    {k : PUnit → Prog (TpuEff nD τ sig (Elt F) Λ₀ .tc) α} :
    (Fill T w c K n m a a' hi)
      ⊢ iprop((Fill T w c K n m a b hi -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 s (srcM off' inb' hs') (slotM off inb hs) hsrc hdst) k) Q) := by
  subst ha ha' hb'
  unfold Fill owing
  rw [inv_ins (ivl_bot e hi h hb).1 (ivl_bot e hi h hb).2, inv_ins (ivl_out_bot e hi h hb).1 (ivl_out_bot e hi h hb).2,
    inv_ins (ivl_top e e.val le_rfl).1 (ivl_top e e.val le_rfl).2]
  iintro ⟨#HE, HS, ⟨%W, HO⟩, HP, Hl, ⟨He, Hf⟩, Hs, Ha, Hi⟩ Hk
  iapply (step_arrive w c (lane e) e n hsem) $$ [He HO]
  · isplitl [He]; · iexact He
    isplitr; · unfold env; icases HE with ⟨-, -, #HL⟩; iexact HL
    iexact HO
  iintro ⟨Hw, He, Hv, HO⟩
  iapply Hk
  isplitr; · iexact HE
  isplitl [HS]; · iexact HS
  isplitl [HO]; · iexact HO
  isplitl [HP]; · iexact HP
  isplitl [Hl]; · iexact Hl
  isplitl [Hf]; · iexact Hf
  isplitl [He Hs]
  · isplitl [He] <;> iassumption
  isplitr [Hi]
  · isplitl [Hw Hv]
    · isplitl [Hw] <;> iassumption
    iexact Ha
  iexact Hi

theorem fill_expert (e : Fin 8) (n m hi a b : ℕ) (ha : a = e.val) (hb' : b = e.val + 1) (h : e.val < hi) (hb : hi ≤ 8) (h' : hi ≤ e.val + 4) {off : Fin 3 → ℕ} {inb}
    (h0 : off 0 = (lane e).val) (h1 : off 1 = 0) (h2 : off 2 = 0) {hl}
    {k : (S1x1024x1024.Idx → Elt F .f32) → Prog (TpuEff nD τ sig (Elt F) Λ₀ .tc) α} :
    (Fill T w c K n m a b hi)
      ⊢ iprop((Fill T w c K n m b b hi -∗ wp frame (wpE (defs₀ (F := F)) 𝒱₀ (c : Thread nD τ) none) Set.univ (k (expert w e)) Q)
        -∗ wp frame (wpE (defs₀ (F := F)) 𝒱₀ (c : Thread nD τ) none) Set.univ
          (.op (.load (Memref.whole cc0_scratch4) (Rect.unit (s := S4x1024x1024) off S1x1024x1024.size inb).toLoadRect hl) k) Q) := by
  subst ha hb'
  unfold Fill
  rw [inv_ins (ivl_bot e (e.val + 1) (by omega) (by omega)).1 (ivl_bot e (e.val + 1) (by omega) (by omega)).2,
    inv_ins (free_bot e hi h hb h').1 (free_bot e hi h hb h').2]
  iintro ⟨#HE, HS, HO, HP, Hl, Hf, Hs, ⟨⟨Hw, Hv⟩, Ha⟩, Hi⟩ Hk
  iapply (step_expert w c (lane e) e h0 h1 h2) $$ Hw
  iintro Hw
  iapply Hk
  isplitr; · iexact HE
  isplitl [HS]; · iexact HS
  isplitl [HO]; · iexact HO
  isplitl [HP]; · iexact HP
  isplitl [Hl]; · iexact Hl
  isplitl [Hf]; · iexact Hf
  isplitl [Hs]; · iexact Hs
  isplitl [Ha]; · iexact Ha
  isplitr [Hi]
  · unfold idleW slotW
    isplitl [Hw]; · iexists _; iexact Hw
    iexact Hv
  iexact Hi

theorem fill_peek (e : Fin 8) (n lo' lo hi a : ℕ) (ha : a = e.val) {off : Fin 2 → ℕ} {inb} (h0 : off 0 = 64 * (ownB e c).val) (h1 : off 1 = 0) {hl}
    {k : (S64x1024.Idx → Elt F .bf16) → Prog (TpuEff nD τ sig (Elt F) Λ₀ .tc) α} :
    (Fill T w c K n a lo' lo hi)
      ⊢ iprop((∀ v, Fill T w c K n a lo' lo hi -∗ wp frame (wpE (defs₀ (F := F)) 𝒱₀ (c : Thread nD τ) none) Set.univ (k v) Q)
        -∗ wp frame (wpE (defs₀ (F := F)) 𝒱₀ (c : Thread nD τ) none) Set.univ
          (.op (.load tabM (Rect.unit (s := S2048x1024) off S64x1024.size inb).toLoadRect hl) k) Q) := by
  subst ha
  unfold Fill
  iintro ⟨#HE, HS, HO, HP, Hrest⟩ Hk
  iapply (step_peek T c e e.val rfl h0 h1) $$ HP
  iintro %v HP
  iapply Hk
  isplitr; · iexact HE
  isplitl [HS]; · iexact HS
  isplitl [HO]; · iexact HO
  isplitl [HP] <;> iassumption

theorem fill_store (e : Fin 8) (n lo' lo hi a b : ℕ) (ha : a = e.val) (hb : b = e.val + 1) (h : n ≤ e.val) {off : Fin 2 → ℕ} {inb} (h0 : off 0 = 64 * (ownB e c).val) (h1 : off 1 = 0)
    {v : S64x1024.Idx → Elt F .bf16} (hv : v = blkT T (ownB e c)) {hx hm}
    {k : PUnit → Prog (TpuEff nD τ sig (Elt F) Λ₀ .tc) α} :
    (Fill T w c K n a lo' lo hi)
      ⊢ iprop((Fill T w c K n b lo' lo hi -∗ wp frame (wpE (defs₀ (F := F)) 𝒱₀ (c : Thread nD τ) none) Set.univ (k ⟨⟩) Q)
        -∗ wp frame (wpE (defs₀ (F := F)) 𝒱₀ (c : Thread nD τ) none) Set.univ
          (.op (.store tabM (Rect.unit (s := S2048x1024) off S64x1024.size inb) v Finset.univ hx hm) k) Q) := by
  subst ha hb
  unfold Fill
  rw [inv_ins (ivl_top e n h).1 (ivl_top e n h).2]
  iintro ⟨#HE, HS, HO, HP, Hl, Hrest⟩ Hk
  iapply (step_store T c e e.val rfl h0 h1 hv) $$ HP
  iintro ⟨HP, Ht⟩
  iapply Hk
  isplitr; · iexact HE
  isplitl [HS]; · iexact HS
  isplitl [HO]; · iexact HO
  isplitl [HP]; · iexact HP
  isplitr [Hrest]
  · isplitl [Ht] <;> iassumption
  iexact Hrest

theorem fill_send (e : Fin 8) (m lo' lo hi a b : ℕ) (ha : a = e.val) (hb : b = e.val + 1) (h : e.val < m) (hm : m ≤ 8) {off : Fin 2 → ℕ} {inb inb'} {hs hs'}
    (h0 : off 0 = 64 * (ownB e c).val) (h1 : off 1 = 0) (d : Dev nD) (hd : d = dst (dir (chan e)) c)
    {sS sR : DmaSem sig} (hS : sS = sendS (chan e)) (hR : sR = recvS (chan e)) {hsc hsrc hdst hsem}
    {k : PUnit → Prog (TpuEff nD τ sig (Elt F) Λ₀ .tc) α} :
    (Fill T w c K a m lo' lo hi)
      ⊢ iprop((Fill T w c K b m lo' lo hi -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (tabM.slice (Rect.unit (s := S2048x1024) off S64x1024.size inb) hs)
            (.remote (Dev.tc d) (tabM.slice (Rect.unit (s := S2048x1024) off S64x1024.size inb') hs') (.dma sS) hsc) (.dma sR) hsrc hdst hsem) k) Q) := by
  subst ha hb
  unfold Fill owing
  rw [inv_ins (ivl_bot e m h hm).1 (ivl_bot e m h hm).2]
  iintro ⟨#HE, HS, ⟨%W, HO⟩, HP, ⟨Ht, Hl⟩, Hrest⟩ Hk
  iapply (step_send T c K (chan e) e.val (chan_pos e).symm ((chan_src e c).symm ▸ h0) h1 hd hS hR) $$ [HS HO Ht]
  · unfold env
    icases HE with ⟨#HI, #Hop, -⟩
    isplitr; · iexact HI
    isplitr; · iexact Hop
    isplitl [HS]; · iexact HS
    isplitl [HO]; · iexact HO
    rw [chan_src]; iexact Ht
  iintro ⟨HS, HO⟩
  iapply Hk
  isplitr; · iexact HE
  isplitl [HS]; · iexact HS
  isplitl [HO]; · iexists _; iexact HO
  isplitl [HP]; · iexact HP
  isplitl [Hl] <;> iassumption

end Steps

/-! ## While blocks are passed on -/

/-- r blocks landed, s copies out. -/
def Pass (r s : ℕ) : sProp 𝕄 := iprop(env T c K ∗ RP T c r ∗ SP c s ∗ owing c s)
/-- Block j landed and is to be passed on. -/
def Passing (j : Ch) : sProp 𝕄 := iprop(Pass T c K (j.val + 1) (8 + j.val) ∗ tb c fullShare.left {inB j c} T)
/-- n of the copies are over. -/
def Over (n : ℕ) : sProp 𝕄 := iprop(env T c K ∗ WP T c n ∗ owing c 24)

theorem after_hop (j : Ch) (h : j.val < 16) : ∀ j' ∈ after (8 + j.val), hop j < hop j' := by revert j; decide +kernel
/-- The channel block j is passed on by. -/
def nextCh (j : Ch) : Ch := ⟨(8 + j.val) % 24, Nat.mod_lt _ (by decide)⟩
theorem next_pos (j : Ch) (h : j.val < 16) : pos (nextCh j) = 8 + j.val := by revert j; decide +kernel
theorem next_src (j : Ch) (h : j.val < 16) (c : Dev nD) : srcB (nextCh j) c = inB j c := by revert j c; decide +kernel

section Steps

variable {α : Type} {Q : α → sProp (MT nD τ sig Unit (Elt F) ℕ UU ℕ)}

theorem pass_recv (j : Ch) (hj : j.val < 16) (n m : ℕ) (hn : n = j.val) (hm : m = 8 + j.val) {sR : DmaSem sig} (hR : sR = recvS j)
    {off off' : Fin 2 → ℕ} {inb inb'} {hs hs'} {hsrc hdst} {k : PUnit → Prog (TpuEff nD τ sig (Elt F) Λ₀ .tc) α} :
    (Pass T c K n m)
      ⊢ iprop((Passing T c K j -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR (tabM.slice (Rect.unit (s := S2048x1024) off S64x1024.size inb) hs)
            (tabM.slice (Rect.unit (s := S2048x1024) off' S64x1024.size inb') hs') hsrc hdst) k) Q) := by
  subst hn hm
  unfold Passing Pass owing
  iintro ⟨#HE, HR, HS, ⟨%W, HO⟩⟩ Hk
  iapply (step_recv T c K j hj j.val (8 + j.val) rfl (after_hop j hj) hR) $$ [HR HO]
  · unfold env
    icases HE with ⟨#HI, -, #HL⟩
    isplitr; · iexact HI
    isplitr; · iexact HL
    isplitl [HR] <;> iassumption
  iintro ⟨HR, HO, Ht⟩
  iapply Hk
  isplitr [Ht]
  · isplitr; · iexact HE
    isplitl [HR]; · iexact HR
    isplitl [HS] <;> iassumption
  iexact Ht

theorem pass_send (j : Ch) (hj : j.val < 16) (n m : ℕ) (hn : n = j.val + 1) (hm : m = 8 + j.val + 1) {off : Fin 2 → ℕ} {inb inb'} {hs hs'}
    (h0 : off 0 = 64 * (inB j c).val) (h1 : off 1 = 0) (d : Dev nD) (hd : d = dst (dir (nextCh j)) c)
    {sS sR : DmaSem sig} (hS : sS = sendS (nextCh j)) (hR : sR = recvS (nextCh j)) {hsc hsrc hdst hsem}
    {k : PUnit → Prog (TpuEff nD τ sig (Elt F) Λ₀ .tc) α} :
    (Passing T c K j)
      ⊢ iprop((Pass T c K n m -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (tabM.slice (Rect.unit (s := S2048x1024) off S64x1024.size inb) hs)
            (.remote (Dev.tc d) (tabM.slice (Rect.unit (s := S2048x1024) off S64x1024.size inb') hs') (.dma sS) hsc) (.dma sR) hsrc hdst hsem) k) Q) := by
  subst hn hm
  unfold Passing Pass owing
  iintro ⟨⟨#HE, HR, HS, ⟨%W, HO⟩⟩, Ht⟩ Hk
  iapply (step_send T c K (nextCh j) (8 + j.val) (next_pos j hj).symm ((next_src j hj c).symm ▸ h0) h1 hd hS hR) $$ [HS HO Ht]
  · unfold env
    icases HE with ⟨#HI, #Hop, -⟩
    isplitr; · iexact HI
    isplitr; · iexact Hop
    isplitl [HS]; · iexact HS
    isplitl [HO]; · iexact HO
    rw [next_src j hj]; iexact Ht
  iintro ⟨HS, HO⟩
  iapply Hk
  isplitr; · iexact HE
  isplitl [HR]; · iexact HR
  isplitl [HS]; · iexact HS
  iexists _; iexact HO

theorem pass_last (j : Ch) (hj : 16 ≤ j.val) (n m : ℕ) (hn : n = j.val) (hm : m = j.val + 1) {sR : DmaSem sig} (hR : sR = recvS j)
    {off off' : Fin 2 → ℕ} {inb inb'} {hs hs'} {hsrc hdst} {k : PUnit → Prog (TpuEff nD τ sig (Elt F) Λ₀ .tc) α} :
    (Pass T c K n 24)
      ⊢ iprop((Pass T c K m 24 -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR (tabM.slice (Rect.unit (s := S2048x1024) off S64x1024.size inb) hs)
            (tabM.slice (Rect.unit (s := S2048x1024) off' S64x1024.size inb') hs') hsrc hdst) k) Q) := by
  subst hn hm
  unfold Pass owing
  iintro ⟨#HE, HR, HS, ⟨%W, HO⟩⟩ Hk
  iapply (step_recv_last T c K j hj j.val rfl hR) $$ [HR HO]
  · unfold env
    icases HE with ⟨#HI, -, -⟩
    isplitr; · iexact HI
    isplitl [HR] <;> iassumption
  iintro ⟨HR, HO⟩
  iapply Hk
  isplitr; · iexact HE
  isplitl [HR]; · iexact HR
  isplitl [HS] <;> iassumption

/-- LOAD chunk ch, all of it landed or made. -/
theorem pass_load (ch : Fin 4) {r s : ℕ} (hS : ∀ b : Fin 32, b.val / 8 = ch.val → b ∈ got c r)
    {off : Fin 2 → ℕ} {inb} (h0 : off 0 = 512 * ch.val) (h1 : off 1 = 0) {hl}
    {k : (S512x1024.Idx → Elt F .bf16) → Prog (TpuEff nD τ sig (Elt F) Λ₀ .tc) α} :
    (Pass T c K r s) ⊢ iprop((Pass T c K r s -∗ wp frame (wpE (defs₀ (F := F)) 𝒱₀ (c : Thread nD τ) none) Set.univ (k (chunkT T ch)) Q)
        -∗ wp frame (wpE (defs₀ (F := F)) 𝒱₀ (c : Thread nD τ) none) Set.univ (.op (.load tabM (Rect.unit (s := S2048x1024) off S512x1024.size inb).toLoadRect hl) k) Q) := by
  unfold Pass RP
  iintro ⟨#HE, ⟨Ha, Hb, Ht, Hl⟩, HS, HO⟩ Hk
  iapply (step_load T c fullShare.right (got c r) ch hS h0 h1) $$ Ht
  iintro Ht
  iapply Hk
  isplitr; · iexact HE
  isplitr [HS HO]
  · isplitl [Ha]; · iexact Ha
    isplitl [Hb]; · iexact Hb
    isplitl [Ht] <;> iassumption
  isplitl [HS] <;> iassumption

theorem over_wait (j : Ch) (n m : ℕ) (hn : n = j.val) (hm : m = j.val + 1) {sS : DmaSem sig} (hS : sS = sendS j)
    {off off' : Fin 2 → ℕ} {inb inb'} {hs hs'} {hsrc hdst} {k : PUnit → Prog (TpuEff nD τ sig (Elt F) Λ₀ .tc) α} :
    (Over T c K n)
      ⊢ iprop((Over T c K m -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS (tabM.slice (Rect.unit (s := S2048x1024) off S64x1024.size inb) hs)
            (tabM.slice (Rect.unit (s := S2048x1024) off' S64x1024.size inb') hs') hsrc hdst) k) Q) := by
  subst hn hm
  unfold Over owing
  rw [owed_end]
  iintro ⟨#HE, HR, ⟨%W, HO⟩⟩ Hk
  iapply (step_over T c K j j.val rfl hS) $$ [HR HO]
  · unfold env
    icases HE with ⟨#HI, -, -⟩
    isplitr; · iexact HI
    isplitl [HR] <;> iassumption
  iintro ⟨HR, HO⟩
  iapply Hk
  isplitr; · iexact HE
  isplitl [HR] <;> iassumption

end Steps

/-! ## Between the stretches -/

/-- The receive cells before anything has landed. -/
def recvs : sProp 𝕄 := bigSep Finset.univ fun j : Ch => iprop(atPos ER (recvCell j c) 0 ∅ 0 ∗ cred (tallyAt (recvCell j c) () N))
/-- The send cells before any copy is waited for. -/
def sends : sProp 𝕄 := bigSep Finset.univ fun j : Ch => atPos ER (sendCell j c) 0 ∅ 0
/-- The experts and the slots, all at rest. -/
def rests : sProp 𝕄 := iprop(bigSep Finset.univ (fun e : Fin 8 => srcW w c e) ∗ bigSep Finset.univ (fun k : Fin 4 => idleW (F := F) c k))

theorem fill_start (f : Tab F) : iprop(env T c K ∗ SP c 0 ∗ owing c 0 ∗ tb c fullShare (ownS c 8) f ∗ rests w c) ⊢ (Fill T w c K 0 0 0 0 0 : sProp 𝕄) := by
  have h0 : ivl 0 0 = ∅ := by decide
  have h1 : free 0 0 = Finset.univ := by decide
  have h2 : ownS c 8 \ ownS c 0 = ownS c 8 := by revert c; decide
  have h3 : ownS c 0 = ∅ := by revert c; decide
  unfold Fill rests OP
  rw [h0, h1, h2, h3, Finset.sdiff_empty, BI.bigSep_empty, BI.bigSep_empty, BI.bigSep_empty, tb_empty]
  iintro ⟨#HE, HS, HO, Ht, Hw, Hi⟩
  isplitr; · iexact HE
  isplitl [HS]; · iexact HS
  isplitl [HO]; · iexact HO
  isplitl [Ht]
  · isplitl [Ht]; · iexists f; iexact Ht
    iempintro
  isplitr; · iempintro
  isplitr; · iempintro
  isplitl [Hw]; · iexact Hw
  isplitr; · iempintro
  iexact Hi

theorem fill_end : iprop(Fill T w c K 8 8 8 8 8 ∗ recvs (F := F) c) ⊢ (iprop(Pass T c K 0 8 ∗ rests w c) : sProp 𝕄) := by
  have h0 : ivl 8 8 = ∅ := by decide
  have h1 : free 8 8 = Finset.univ := by decide
  have h2 : (Finset.univ.filter fun j : Ch => 0 ≤ j.val) = Finset.univ := by decide
  have h3 : (Finset.univ.filter fun j : Ch => ¬ 0 ≤ j.val) = ∅ := by decide
  have h4 : kept c 0 = ∅ := by revert c; decide +kernel
  unfold Fill rests OP Pass RP recvs
  rw [h0, h1, h2, h3, h4, Finset.sdiff_empty, BI.bigSep_empty, BI.bigSep_empty, BI.bigSep_empty, BI.bigSep_empty, tb_empty, got_zero]
  iintro ⟨⟨#HE, HS, HO, ⟨-, Ht⟩, -, -, Hw, -, Hi⟩, Hr⟩
  isplitr [Hw Hi]
  · isplitr; · iexact HE
    isplitl [Hr Ht]
    · isplitl [Hr]; · iexact Hr
      isplitr; · iempintro
      isplitl [Ht]; · iexact Ht
      iempintro
    isplitl [HS] <;> iassumption
  isplitl [Hw] <;> iassumption

/-- Every block has landed: the right half of the table is whole, and the copies are to be waited for. -/
theorem pass_end : iprop(Pass T c K 24 24 ∗ sends (F := F) c) ⊢
    (iprop(Over T c K 0 ∗ tb c fullShare.right Finset.univ T ∗ bigSep Finset.univ (fun j : Ch => atPos ER (recvCell j c) (0 + 1) ∅ 0)) : sProp 𝕄) := by
  have h0 : (Finset.univ.filter fun j : Ch => 24 ≤ j.val) = ∅ := by decide
  have h1 : (Finset.univ.filter fun j : Ch => ¬ 24 ≤ j.val) = Finset.univ := by decide
  have h2 : (Finset.univ.filter fun j : Ch => 0 ≤ j.val) = Finset.univ := by decide
  have h3 : (Finset.univ.filter fun j : Ch => ¬ 0 ≤ j.val) = ∅ := by decide
  have h4 : sent 24 = Finset.univ := by decide
  unfold Pass RP SP Over WP sends
  rw [h0, h1, h2, h3, h4, after_end, BI.bigSep_empty, BI.bigSep_empty, BI.bigSep_empty, got_end, back_zero]
  iintro ⟨⟨#HE, ⟨-, Ha, Hr, Hl⟩, ⟨-, Hc⟩, HO⟩, Hs⟩
  isplitr [Hr Ha]
  · isplitr; · iexact HE
    isplitr [HO]
    · isplitl [Hs Hc]
      · iapply (each_in Finset.univ (fun j : Ch => atPos ER (sendCell j c) 0 ∅ 0) (fun j : Ch => cred (tallyAt (sendCell j c) () N)))
        isplitl [Hs] <;> iassumption
      isplitr; · iempintro
      iexact Hl
    iexact HO
  isplitl [Hr] <;> iassumption

theorem over_end : iprop(Over T c K 24 ∗ tb c fullShare.right Finset.univ T) ⊢
    (iprop(tb c fullShare Finset.univ T ∗ bigSep Finset.univ (fun j : Ch => atPos ER (sendCell j c) (0 + 1) ∅ 0) ∗ ∃ W, owes (c : Thread nD τ) 0 W) : sProp 𝕄) := by
  have h0 : (Finset.univ.filter fun j : Ch => 24 ≤ j.val) = ∅ := by decide
  have h1 : (Finset.univ.filter fun j : Ch => ¬ 24 ≤ j.val) = Finset.univ := by decide
  unfold Over WP owing
  rw [h0, h1, BI.bigSep_empty, back_end, owed_end]
  iintro ⟨⟨-, ⟨-, Ha, Hl⟩, HO⟩, Hr⟩
  isplitl [Hl Hr]
  · iapply (tb_share c Finset.univ T).2
    isplitl [Hl] <;> iassumption
  isplitl [Ha] <;> iassumption

end Cert.KernelIdeal.Hand
-- ==== Proof.Hops.lean ====
/- The last stretch of the body: the blocks passed on and the other chunks combined. -/
module

public import proofs.«01_k».proof.Proof.Walk
public import Idealize.ShloMosaic.Lib.VecWindow

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

open Cert.KernelIdeal.Gen

/-- A whole buffer of device c at given contents. -/
abbrev held {sp : Space} {sh : Shape} {e : EltTy} (c : Dev nD) (M : Memref sig .tc sp sh e) (f : Buf (Elt F) (M.view.loc (c : Thread nD τ))) : sProp 𝕄 :=
  M.view.loc (c : Thread nD τ) ↦[M.view.set]{fullShare} f

/-- The chunk d places to the right. -/
def far (c : Dev nD) (d : ℕ) : Fin 4 := ⟨(c.val + d) % 4, Nat.mod_lt _ (by decide)⟩

theorem far_got (c : Dev nD) : ∀ b : Fin 32, b.val / 8 = (far c 2).val → b ∈ got c 16 := by revert c; decide +kernel
theorem all_got (c : Dev nD) (ch : Fin 4) : ∀ b : Fin 32, b.val / 8 = ch.val → b ∈ got c 24 := by
  intro b _; rw [got_end]; exact Finset.mem_univ _
theorem off7_far (c : Dev nD) : k0_off7 c 2#32 0 = 512 * (far c 2).val := by revert c; decide +kernel
theorem off7_near (c : Dev nD) : k0_off7 c 1#32 0 = 512 * (far c 1).val := by revert c; decide +kernel
theorem off8_at (c : Dev nD) : k0_off8 c 0 = 512 * (far c 3).val := by revert c; decide +kernel

theorem off5_val : ∀ (h : Fin 3) (s : Fin 8) (c : Dev nD),
    k0_off5 c (BitVec.ofNat 32 h.val) (BitVec.ofNat 32 (64 * s.val)) 0 = 64 * ((c.val + 4 - h.val) % 4 * 8 + s.val) := by decide +kernel
theorem off6_val : ∀ (h : Fin 3) (s : Fin 8) (c : Dev nD),
    k0_off6 c (BitVec.ofNat 32 h.val) (BitVec.ofNat 32 (64 * s.val)) 0 = 64 * ((c.val + h.val) % 4 * 8 + s.val) := by decide +kernel
theorem off5_at {j : Ch} (a b : BitVec 32) (h : Fin 3) (s : Fin 8) (ha : a = BitVec.ofNat 32 h.val) (hb : b = BitVec.ofNat 32 (64 * s.val)) (hj : ∀ c : Dev nD, (inB j c).val = (c.val + 4 - h.val) % 4 * 8 + s.val) {c : Dev nD} :
    k0_off5 c a b 0 = 64 * (inB j c).val := by rw [ha, hb, hj c]; exact off5_val h s c
theorem off6_at {j : Ch} (a b : BitVec 32) (h : Fin 3) (s : Fin 8) (ha : a = BitVec.ofNat 32 h.val) (hb : b = BitVec.ofNat 32 (64 * s.val)) (hj : ∀ c : Dev nD, (inB j c).val = (c.val + h.val) % 4 * 8 + s.val) {c : Dev nD} :
    k0_off6 c a b 0 = 64 * (inB j c).val := by rw [ha, hb, hj c]; exact off6_val h s c

/-- A buffer after a store of all of it. -/
theorem whole_written {κ : _} (b : Ref sig κ) (f : b.ty.Contents (Elt F)) {off : Fin b.ty.shape.rank → ℕ}
    (inb : ∀ a, off a + b.ty.shape.size a ≤ b.ty.shape.size a) (w : b.ty.shape.Idx → Elt F b.ty.elt) (L : List (View.Piece (Elt F) b.ty.shape b.ty.elt)) :
    (Memref.whole b).view.writes (Elt F) f (⟨Rect.unit off b.ty.shape.size inb, w⟩ :: L) = w :=
  (View.read_whole (Val := Elt F) b _).symm.trans (View.read_writes_full (Val := Elt F) (View.whole b) f inb w L)

/-- A buffer loaded whole as it stands. -/
theorem whole_load {κ : _} (b : Ref sig κ) (f : b.ty.Contents (Elt F)) {off : Fin b.ty.shape.rank → ℕ}
    (inb : ∀ a, off a + b.ty.shape.size a ≤ b.ty.shape.size a) :
    View.readAt (Elt F) (Memref.whole b).view (Rect.unit off b.ty.shape.size inb).toLoadRect f = f :=
  (View.readAt_full (Val := Elt F) (View.whole b) f inb).trans (View.read_whole (Val := Elt F) b f)

/-- The result after a store of all of it. -/
theorem out_written (f : Vec F S512x1024 .f32) (w : S512x1024.Idx → Elt F .f32)
    (L : List (View.Piece (Elt F) S512x1024 .f32)) :
    (Memref.whole cc0_stg3_0).view.writes (Elt F) f (⟨Rect.unit ![0, 0] S512x1024.size inb_S512x1024_S512x1024_0_0, w⟩ :: L) = w :=
  whole_written cc0_stg3_0 f inb_S512x1024_S512x1024_0_0 w L

/-- The result loaded after a store of all of it. -/
theorem out_loaded (w : S512x1024.Idx → Elt F .f32)
    (L : List (View.Piece (Elt F) S512x1024 .f32)) :
    View.readCov (Val := Elt F) (Memref.whole cc0_stg3_0).view (⟨Rect.unit ![0, 0] S512x1024.size inb_S512x1024_S512x1024_0_0, w⟩ :: L)
      (Rect.unit ![0, 0] S512x1024.size inb_S512x1024_S512x1024_0_0).toLoadRect = w :=
  View.readCov_full (Memref.whole cc0_stg3_0).view inb_S512x1024_S512x1024_0_0 inb_S512x1024_S512x1024_0_0 w L

/-- The result loaded as it stands. -/
theorem out_load (f : Vec F S512x1024 .f32) :
    View.readAt (Elt F) (Memref.whole cc0_stg3_0).view (Rect.unit ![0, 0] S512x1024.size inb_S512x1024_S512x1024_0_0).toLoadRect f = f :=
  whole_load cc0_stg3_0 f inb_S512x1024_S512x1024_0_0
/-- The numbers of the chunks to the right and to the left, as the body works them out. -/
def rightW (v2 : BitVec 32) : BitVec 32 := Scalar.remsi (Scalar.addi v2 1#32) 4#32
def leftW (v2 : BitVec 32) : BitVec 32 := Scalar.remsi (Scalar.addi (Scalar.subi v2 1#32) 4#32) 4#32

/-- The result once the three other chunks are combined into o. -/
def mixed (T : Tab F) (c : Dev nD) (v2 : BitVec 32) (v788 : Vec F S512x1 .i32) (v789 : IVec S512x512 32) (o : Vec F S512x1024 .f32) : Vec F S512x1024 .f32 :=
  k0_pay98 v788 v789 (leftW v2) (chunkT T (far c 3))
    (k0_pay97 v788 (k0_pay96 v789 (rightW v2)) (chunkT T (far c 1))
      (k0_pay95 (k0_pay94 v2 v788 v789) (chunkT T (far c 2)) o))

set_option maxHeartbeats 1600000 in
/-- The last stretch: every block passed on, the three other chunks combined into the result, and
    all but two of the copies' ends waited for. -/
theorem hops (T : Tab F) (c : Dev nD) (K : GSem nD τ sig → ℕ) (Q : _ → sProp (MT nD τ sig Unit (Elt F) ℕ UU ℕ))
    (v2 v4 v6 : BitVec 32) (v788 : Vec F S512x1 .i32) (v789 : IVec S512x512 32) (v805 v807 : BitVec 32) (o : Vec F S512x1024 .f32) :
    iprop(Pass T c K 0 8 ∗ sends (F := F) c ∗ held c (Memref.whole cc0_stg3_0) o
        ∗ (∀ v, (Over T c K 22 ∗ tb c fullShare.right Finset.univ T ∗ bigSep Finset.univ (fun j : Ch => atPos ER (recvCell j c) (0 + 1) ∅ 0)
            ∗ held c (Memref.whole cc0_stg3_0) (mixed T c v2 v788 v789 o)) -∗ Q ⟨c, v⟩))
      ⊢ wp frame (wpE (defs₀ (F := F)) 𝒱₀ (c : Thread nD τ) none) Set.univ (tail23 (F := F) c v2 v4 v6 v788 v789 v805 v807) Q := by
  unfold tail23
  iintro ⟨HP, Hs, Ho, Hk⟩
  sl_exec
  iapply (pass_recv T c K 0 (by decide) 0 8 rfl rfl rfl) $$ HP
  iintro HP
  sl_exec
  iapply (pass_send T c K 0 (by decide) 1 9 rfl rfl (off5_at 1#32 0#32 1 0 rfl rfl (by decide +kernel)) rfl ⟨k0_dev11 c, k0_dev11_lt c⟩ (Fin.ext (k0_dev11_eq c)) rfl rfl) $$ HP
  iintro HP
  sl_exec
  iapply (pass_recv T c K 1 (by decide) 1 9 rfl rfl rfl) $$ HP
  iintro HP
  sl_exec
  iapply (pass_send T c K 1 (by decide) 2 10 rfl rfl (off6_at 1#32 256#32 1 4 rfl rfl (by decide +kernel)) rfl ⟨k0_dev12 c, k0_dev12_lt c⟩ (Fin.ext (k0_dev12_eq c)) rfl rfl) $$ HP
  iintro HP
  sl_exec
  iapply (pass_recv T c K 2 (by decide) 2 10 rfl rfl rfl) $$ HP
  iintro HP
  sl_exec
  iapply (pass_send T c K 2 (by decide) 3 11 rfl rfl (off5_at 1#32 64#32 1 1 rfl rfl (by decide +kernel)) rfl ⟨k0_dev13 c, k0_dev13_lt c⟩ (Fin.ext (k0_dev13_eq c)) rfl rfl) $$ HP
  iintro HP
  sl_exec
  iapply (pass_recv T c K 3 (by decide) 3 11 rfl rfl rfl) $$ HP
  iintro HP
  sl_exec
  iapply (pass_send T c K 3 (by decide) 4 12 rfl rfl (off6_at 1#32 320#32 1 5 rfl rfl (by decide +kernel)) rfl ⟨k0_dev14 c, k0_dev14_lt c⟩ (Fin.ext (k0_dev14_eq c)) rfl rfl) $$ HP
  iintro HP
  sl_exec
  iapply (pass_recv T c K 4 (by decide) 4 12 rfl rfl rfl) $$ HP
  iintro HP
  sl_exec
  iapply (pass_send T c K 4 (by decide) 5 13 rfl rfl (off5_at 1#32 128#32 1 2 rfl rfl (by decide +kernel)) rfl ⟨k0_dev15 c, k0_dev15_lt c⟩ (Fin.ext (k0_dev15_eq c)) rfl rfl) $$ HP
  iintro HP
  sl_exec
  iapply (pass_recv T c K 5 (by decide) 5 13 rfl rfl rfl) $$ HP
  iintro HP
  sl_exec
  iapply (pass_send T c K 5 (by decide) 6 14 rfl rfl (off6_at 1#32 384#32 1 6 rfl rfl (by decide +kernel)) rfl ⟨k0_dev16 c, k0_dev16_lt c⟩ (Fin.ext (k0_dev16_eq c)) rfl rfl) $$ HP
  iintro HP
  sl_exec
  iapply (pass_recv T c K 6 (by decide) 6 14 rfl rfl rfl) $$ HP
  iintro HP
  sl_exec
  iapply (pass_send T c K 6 (by decide) 7 15 rfl rfl (off5_at 1#32 192#32 1 3 rfl rfl (by decide +kernel)) rfl ⟨k0_dev17 c, k0_dev17_lt c⟩ (Fin.ext (k0_dev17_eq c)) rfl rfl) $$ HP
  iintro HP
  sl_exec
  iapply (pass_recv T c K 7 (by decide) 7 15 rfl rfl rfl) $$ HP
  iintro HP
  sl_exec
  iapply (pass_send T c K 7 (by decide) 8 16 rfl rfl (off6_at 1#32 448#32 1 7 rfl rfl (by decide +kernel)) rfl ⟨k0_dev18 c, k0_dev18_lt c⟩ (Fin.ext (k0_dev18_eq c)) rfl rfl) $$ HP
  iintro HP
  sl_exec
  iapply (pass_recv T c K 8 (by decide) 8 16 rfl rfl rfl) $$ HP
  iintro HP
  sl_exec
  iapply (pass_send T c K 8 (by decide) 9 17 rfl rfl (off5_at 2#32 0#32 2 0 rfl rfl (by decide +kernel)) rfl ⟨k0_dev19 c, k0_dev19_lt c⟩ (Fin.ext (k0_dev19_eq c)) rfl rfl) $$ HP
  iintro HP
  sl_exec
  iapply (pass_recv T c K 9 (by decide) 9 17 rfl rfl rfl) $$ HP
  iintro HP
  sl_exec
  iapply (pass_send T c K 9 (by decide) 10 18 rfl rfl (off6_at 2#32 256#32 2 4 rfl rfl (by decide +kernel)) rfl ⟨k0_dev20 c, k0_dev20_lt c⟩ (Fin.ext (k0_dev20_eq c)) rfl rfl) $$ HP
  iintro HP
  sl_exec
  iapply (pass_recv T c K 10 (by decide) 10 18 rfl rfl rfl) $$ HP
  iintro HP
  sl_exec
  iapply (pass_send T c K 10 (by decide) 11 19 rfl rfl (off5_at 2#32 64#32 2 1 rfl rfl (by decide +kernel)) rfl ⟨k0_dev21 c, k0_dev21_lt c⟩ (Fin.ext (k0_dev21_eq c)) rfl rfl) $$ HP
  iintro HP
  sl_exec
  iapply (pass_recv T c K 11 (by decide) 11 19 rfl rfl rfl) $$ HP
  iintro HP
  sl_exec
  iapply (pass_send T c K 11 (by decide) 12 20 rfl rfl (off6_at 2#32 320#32 2 5 rfl rfl (by decide +kernel)) rfl ⟨k0_dev22 c, k0_dev22_lt c⟩ (Fin.ext (k0_dev22_eq c)) rfl rfl) $$ HP
  iintro HP
  sl_exec
  iapply (pass_recv T c K 12 (by decide) 12 20 rfl rfl rfl) $$ HP
  iintro HP
  sl_exec
  iapply (pass_send T c K 12 (by decide) 13 21 rfl rfl (off5_at 2#32 128#32 2 2 rfl rfl (by decide +kernel)) rfl ⟨k0_dev23 c, k0_dev23_lt c⟩ (Fin.ext (k0_dev23_eq c)) rfl rfl) $$ HP
  iintro HP
  sl_exec
  iapply (pass_recv T c K 13 (by decide) 13 21 rfl rfl rfl) $$ HP
  iintro HP
  sl_exec
  iapply (pass_send T c K 13 (by decide) 14 22 rfl rfl (off6_at 2#32 384#32 2 6 rfl rfl (by decide +kernel)) rfl ⟨k0_dev24 c, k0_dev24_lt c⟩ (Fin.ext (k0_dev24_eq c)) rfl rfl) $$ HP
  iintro HP
  sl_exec
  iapply (pass_recv T c K 14 (by decide) 14 22 rfl rfl rfl) $$ HP
  iintro HP
  sl_exec
  iapply (pass_send T c K 14 (by decide) 15 23 rfl rfl (off5_at 2#32 192#32 2 3 rfl rfl (by decide +kernel)) rfl ⟨k0_dev25 c, k0_dev25_lt c⟩ (Fin.ext (k0_dev25_eq c)) rfl rfl) $$ HP
  iintro HP
  sl_exec
  iapply (pass_recv T c K 15 (by decide) 15 23 rfl rfl rfl) $$ HP
  iintro HP
  sl_exec
  iapply (pass_send T c K 15 (by decide) 16 24 rfl rfl (off6_at 2#32 448#32 2 7 rfl rfl (by decide +kernel)) rfl ⟨k0_dev26 c, k0_dev26_lt c⟩ (Fin.ext (k0_dev26_eq c)) rfl rfl) $$ HP
  iintro HP
  sl_exec
  iapply (pass_load T c K (far c 2) (far_got c) (off7_far c) rfl) $$ HP
  iintro HP
  sl_exec
  iapply (pass_last T c K 16 (by decide) 16 17 rfl rfl rfl) $$ HP
  iintro HP
  sl_exec
  iapply (pass_last T c K 17 (by decide) 17 18 rfl rfl rfl) $$ HP
  iintro HP
  sl_exec
  iapply (pass_last T c K 18 (by decide) 18 19 rfl rfl rfl) $$ HP
  iintro HP
  sl_exec
  iapply (pass_last T c K 19 (by decide) 19 20 rfl rfl rfl) $$ HP
  iintro HP
  sl_exec
  iapply (pass_last T c K 20 (by decide) 20 21 rfl rfl rfl) $$ HP
  iintro HP
  sl_exec
  iapply (pass_last T c K 21 (by decide) 21 22 rfl rfl rfl) $$ HP
  iintro HP
  sl_exec
  iapply (pass_last T c K 22 (by decide) 22 23 rfl rfl rfl) $$ HP
  iintro HP
  sl_exec
  iapply (pass_last T c K 23 (by decide) 23 24 rfl rfl rfl) $$ HP
  iintro HP
  sl_exec
  iapply (pass_load T c K (far c 1) (all_got c _) (off7_near c) rfl) $$ HP
  iintro HP
  sl_exec
  iapply (pass_load T c K (far c 3) (all_got c _) (off8_at c) rfl) $$ HP
  iintro HP
  sl_exec
  ihave HP2 := (pass_end T c K) $$ [HP Hs]
  · isplitl [HP] <;> iassumption
  icases HP2 with ⟨HP, Hr, Ha⟩
  iapply (over_wait T c K 0 0 1 rfl rfl rfl) $$ HP
  iintro HP
  sl_exec
  iapply (over_wait T c K 1 1 2 rfl rfl rfl) $$ HP
  iintro HP
  sl_exec
  iapply (over_wait T c K 2 2 3 rfl rfl rfl) $$ HP
  iintro HP
  sl_exec
  iapply (over_wait T c K 3 3 4 rfl rfl rfl) $$ HP
  iintro HP
  sl_exec
  iapply (over_wait T c K 4 4 5 rfl rfl rfl) $$ HP
  iintro HP
  sl_exec
  iapply (over_wait T c K 5 5 6 rfl rfl rfl) $$ HP
  iintro HP
  sl_exec
  iapply (over_wait T c K 6 6 7 rfl rfl rfl) $$ HP
  iintro HP
  sl_exec
  iapply (over_wait T c K 7 7 8 rfl rfl rfl) $$ HP
  iintro HP
  sl_exec
  iapply (over_wait T c K 8 8 9 rfl rfl rfl) $$ HP
  iintro HP
  sl_exec
  iapply (over_wait T c K 9 9 10 rfl rfl rfl) $$ HP
  iintro HP
  sl_exec
  iapply (over_wait T c K 10 10 11 rfl rfl rfl) $$ HP
  iintro HP
  sl_exec
  iapply (over_wait T c K 11 11 12 rfl rfl rfl) $$ HP
  iintro HP
  sl_exec
  iapply (over_wait T c K 12 12 13 rfl rfl rfl) $$ HP
  iintro HP
  sl_exec
  iapply (over_wait T c K 13 13 14 rfl rfl rfl) $$ HP
  iintro HP
  sl_exec
  iapply (over_wait T c K 14 14 15 rfl rfl rfl) $$ HP
  iintro HP
  sl_exec
  iapply (over_wait T c K 15 15 16 rfl rfl rfl) $$ HP
  iintro HP
  sl_exec
  iapply (over_wait T c K 16 16 17 rfl rfl rfl) $$ HP
  iintro HP
  sl_exec
  iapply (over_wait T c K 17 17 18 rfl rfl rfl) $$ HP
  iintro HP
  sl_exec
  iapply (over_wait T c K 18 18 19 rfl rfl rfl) $$ HP
  iintro HP
  sl_exec
  iapply (over_wait T c K 19 19 20 rfl rfl rfl) $$ HP
  iintro HP
  sl_exec
  iapply (over_wait T c K 20 20 21 rfl rfl rfl) $$ HP
  iintro HP
  sl_exec
  iapply (over_wait T c K 21 21 22 rfl rfl rfl) $$ HP
  iintro HP
  sl_exec
  rw [out_written]
  have w1 : hops.sl.v1123 v2 = leftW v2 := rfl
  have w2 : hops.sl.v1190 v2 v789 = k0_pay96 v789 (rightW v2) := rfl
  have e1 : hops.sl.v1200 T c v2 v788 v789 o = k0_pay95 (k0_pay94 v2 v788 v789) (chunkT T (far c 2)) o := by
    unfold hops.sl.v1200
    rw [out_loaded, out_load]
  have e2 : hops.sl.v1216 T c v2 v788 v789 o = k0_pay97 v788 (hops.sl.v1190 v2 v789) (chunkT T (far c 1)) (hops.sl.v1200 T c v2 v788 v789 o) := by
    unfold hops.sl.v1216
    rw [out_loaded]
  rw [e2, e1, w1, w2, wp_ret]
  imodintro
  iapply Hk
  isplitl [HP]; · iexact HP
  isplitl [Hr]; · iexact Hr
  isplitl [Ha]; · iexact Ha
  unfold mixed
  iexact Ho
end Cert.KernelIdeal.Hand
-- ==== Proof.Own.lean ====
/- The eight own blocks: each computed from its expert, stored, and sent on its way. -/
module

public import proofs.«01_k».proof.Proof.Hops

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

open Cert.KernelIdeal.Gen

/-- A finished program followed by another. -/
theorem ret_then.{v} {E : Type → Type v} {α β : Type} (a : α) (k : α → Prog E β) : (Prog.ret a).bind k = k a := rfl

theorem off1_val : ∀ (e : Fin 8) (c : Dev nD), k0_off1 c (BitVec.ofNat 32 (64 * e.val)) 0 = 64 * (ownB e c).val := by decide +kernel
theorem off2_val : ∀ (e : Fin 8) (c : Dev nD), k0_off2 c (BitVec.ofNat 32 (64 * e.val)) 0 = 64 * (ownB e c).val := by decide +kernel
theorem off1_at (e : Fin 8) (a : BitVec 32) (ha : a = BitVec.ofNat 32 (64 * e.val)) {c : Dev nD} : k0_off1 c a 0 = 64 * (ownB e c).val := by
  rw [ha]; exact off1_val e c
theorem off2_at (e : Fin 8) (a : BitVec 32) (ha : a = BitVec.ofNat 32 (64 * e.val)) {c : Dev nD} : k0_off2 c a 0 = 64 * (ownB e c).val := by
  rw [ha]; exact off2_val e c
theorem off4_at (c : Dev nD) : k0_off4 c 0 = 512 * (far c 0).val := by revert c; decide +kernel
theorem far_own (c : Dev nD) : ∀ b : Fin 32, b.val / 8 = (far c 0).val → b ∈ got c 0 := by revert c; decide +kernel

/-- The 64 rows of expert e among the dispatched tokens. -/
def xdRows (XD : Vec F S512x1024 .bf16) (e : Fin 8) : Vec F S64x1024 .bf16 :=
  View.readAt (Elt F) (Memref.whole cc0_scratch1).view
    (Rect.unit (s := S512x1024) ![64 * e.val, 0] S64x1024.size (by revert e; decide)).toLoadRect XD

/-- The slots of the tokens the device combines for. -/
def mySlots (c : Dev nD) (sc : Vec F S2048x1 .i32) : Vec F S512x1 .i32 :=
  View.readAt (Elt F) (Memref.whole cc0_scratch2).view (Rect.unit (s := S2048x1) (k0_off3 c) S512x1.size (k0_off3_inb c)).toLoadRect sc

/-- The columns' numbers. -/
def cols : IVec S512x512 32 := iota .tc S512x512 32 [1] iota_S512x512_d1_w32

/-- The dispatched tokens after their store. -/
theorem xd_written (f : Vec F S512x1024 .bf16) (w : S512x1024.Idx → Elt F .bf16)
    (L : List (View.Piece (Elt F) S512x1024 .bf16)) :
    (Memref.whole cc0_scratch1).view.writes (Elt F) f (⟨Rect.unit ![0, 0] S512x1024.size inb_S512x1024_S512x1024_0_0, w⟩ :: L) = w :=
  whole_written cc0_scratch1 f inb_S512x1024_S512x1024_0_0 w L

/-- The result of the whole body. -/
def out (T : Tab F) (c : Dev nD) (v2 : BitVec 32) (sc : Vec F S2048x1 .i32) : Vec F S512x1024 .f32 :=
  mixed T c v2 (mySlots c sc) cols (k0_pay93 v2 (mySlots c sc) (chunkT T (far c 0)))

set_option maxHeartbeats 1600000 in
/-- From the dispatched tokens on: the eight own blocks computed, stored and sent, then the last
    stretch. -/
theorem own (T : Tab F) (w : Wts F) (c : Dev nD) (K : GSem nD τ sig → ℕ) (Q : _ → sProp (MT nD τ sig Unit (Elt F) ℕ UU ℕ))
    (v2 v4 v6 v7 : BitVec 32) (v542 : FVec F S512x1024 .bf16) (v543 : Vec F S512x1024 .bf16)
    (xd : Vec F S512x1024 .bf16) (sc : Vec F S2048x1 .i32) (o : Vec F S512x1024 .f32)
    (hT : ∀ e : Fin 8, k0_pay82 (xdRows (k0_pay81 v542) e) (expert w e) = blkT T (ownB e c)) :
    iprop(Fill T w c K 0 0 0 0 4 ∗ recvs (F := F) c ∗ sends (F := F) c ∗ held c (Memref.whole cc0_scratch1) xd
        ∗ held c (Memref.whole cc0_scratch2) sc ∗ held c (Memref.whole cc0_stg3_0) o
        ∗ (∀ v, (Over T c K 22 ∗ tb c fullShare.right Finset.univ T ∗ bigSep Finset.univ (fun j : Ch => atPos ER (recvCell j c) (0 + 1) ∅ 0)
            ∗ rests w c ∗ held c (Memref.whole cc0_scratch1) (k0_pay81 v542)
            ∗ held c (Memref.whole cc0_scratch2) sc ∗ held c (Memref.whole cc0_stg3_0) (out T c v2 sc)) -∗ Q ⟨c, v⟩))
      ⊢ wp frame (wpE (defs₀ (F := F)) 𝒱₀ (c : Thread nD τ) none) Set.univ (tail14 (F := F) c v2 v4 v6 v7 v542 v543) Q := by
  unfold tail14
  generalize ht : tail23 (F := F) = t
  iintro ⟨HP, Hr, Hs, Hx, Hsc, Ho, Hk⟩
  sl_exec
  rw [xd_written]
  iapply (fill_arrive T w c K 0 0 0 4 0 0 1 rfl rfl rfl (by decide) (by decide) rfl) $$ HP
  iintro HP
  first | sl_exec | (rw [ret_then]; sl_exec) | skip
  iapply (fill_expert T w c K 0 0 0 4 0 1 rfl rfl (by decide) (by decide) (by decide) rfl rfl rfl) $$ HP
  iintro HP
  first | sl_exec | (rw [ret_then]; sl_exec) | skip
  iapply (fill_peek T w c K 0 0 1 1 4 0 rfl (off1_at 0 0#32 rfl) rfl) $$ HP
  iintro %_ HP
  first | sl_exec | (rw [ret_then]; sl_exec) | skip
  iapply (fill_store T w c K 0 0 1 1 4 0 1 rfl rfl (by decide) (off1_at 0 0#32 rfl) rfl ((show k0_pay82 (xdRows (k0_pay81 v542) 0) (expert w 0) = _ from rfl).trans (hT 0))) $$ HP
  iintro HP
  first | sl_exec | (rw [ret_then]; sl_exec) | skip
  iapply (fill_fetch T w c K 4 0 1 1 4 5 rfl rfl (by decide) (by decide) rfl rfl rfl rfl rfl rfl rfl) $$ HP
  iintro HP
  first | sl_exec | (rw [ret_then]; sl_exec) | skip
  iapply (fill_send T w c K 0 1 1 1 5 0 1 rfl rfl (by decide) (by decide) (off2_at 0 0#32 rfl) rfl ⟨k0_dev3 c, k0_dev3_lt c⟩ (Fin.ext (k0_dev3_eq c)) rfl rfl) $$ HP
  iintro HP
  first | sl_exec | (rw [ret_then]; sl_exec) | skip
  iapply (fill_arrive T w c K 1 1 1 5 1 1 2 rfl rfl rfl (by decide) (by decide) rfl) $$ HP
  iintro HP
  first | sl_exec | (rw [ret_then]; sl_exec) | skip
  iapply (fill_expert T w c K 1 1 1 5 1 2 rfl rfl (by decide) (by decide) (by decide) rfl rfl rfl) $$ HP
  iintro HP
  first | sl_exec | (rw [ret_then]; sl_exec) | skip
  iapply (fill_peek T w c K 1 1 2 2 5 1 rfl (off1_at 1 64#32 rfl) rfl) $$ HP
  iintro %_ HP
  first | sl_exec | (rw [ret_then]; sl_exec) | skip
  iapply (fill_store T w c K 1 1 2 2 5 1 2 rfl rfl (by decide) (off1_at 1 64#32 rfl) rfl ((show k0_pay83 (xdRows (k0_pay81 v542) 1) (expert w 1) = _ from rfl).trans (hT 1))) $$ HP
  iintro HP
  first | sl_exec | (rw [ret_then]; sl_exec) | skip
  iapply (fill_fetch T w c K 5 1 2 2 5 6 rfl rfl (by decide) (by decide) rfl rfl rfl rfl rfl rfl rfl) $$ HP
  iintro HP
  first | sl_exec | (rw [ret_then]; sl_exec) | skip
  iapply (fill_send T w c K 1 2 2 2 6 1 2 rfl rfl (by decide) (by decide) (off2_at 1 64#32 rfl) rfl ⟨k0_dev4 c, k0_dev4_lt c⟩ (Fin.ext (k0_dev4_eq c)) rfl rfl) $$ HP
  iintro HP
  first | sl_exec | (rw [ret_then]; sl_exec) | skip
  iapply (fill_arrive T w c K 2 2 2 6 2 2 3 rfl rfl rfl (by decide) (by decide) rfl) $$ HP
  iintro HP
  first | sl_exec | (rw [ret_then]; sl_exec) | skip
  iapply (fill_expert T w c K 2 2 2 6 2 3 rfl rfl (by decide) (by decide) (by decide) rfl rfl rfl) $$ HP
  iintro HP
  first | sl_exec | (rw [ret_then]; sl_exec) | skip
  iapply (fill_peek T w c K 2 2 3 3 6 2 rfl (off1_at 2 128#32 rfl) rfl) $$ HP
  iintro %_ HP
  first | sl_exec | (rw [ret_then]; sl_exec) | skip
  iapply (fill_store T w c K 2 2 3 3 6 2 3 rfl rfl (by decide) (off1_at 2 128#32 rfl) rfl ((show k0_pay84 (xdRows (k0_pay81 v542) 2) (expert w 2) = _ from rfl).trans (hT 2))) $$ HP
  iintro HP
  first | sl_exec | (rw [ret_then]; sl_exec) | skip
  iapply (fill_fetch T w c K 6 2 3 3 6 7 rfl rfl (by decide) (by decide) rfl rfl rfl rfl rfl rfl rfl) $$ HP
  iintro HP
  first | sl_exec | (rw [ret_then]; sl_exec) | skip
  iapply (fill_send T w c K 2 3 3 3 7 2 3 rfl rfl (by decide) (by decide) (off2_at 2 128#32 rfl) rfl ⟨k0_dev5 c, k0_dev5_lt c⟩ (Fin.ext (k0_dev5_eq c)) rfl rfl) $$ HP
  iintro HP
  first | sl_exec | (rw [ret_then]; sl_exec) | skip
  iapply (fill_arrive T w c K 3 3 3 7 3 3 4 rfl rfl rfl (by decide) (by decide) rfl) $$ HP
  iintro HP
  first | sl_exec | (rw [ret_then]; sl_exec) | skip
  iapply (fill_expert T w c K 3 3 3 7 3 4 rfl rfl (by decide) (by decide) (by decide) rfl rfl rfl) $$ HP
  iintro HP
  first | sl_exec | (rw [ret_then]; sl_exec) | skip
  iapply (fill_peek T w c K 3 3 4 4 7 3 rfl (off1_at 3 192#32 rfl) rfl) $$ HP
  iintro %_ HP
  first | sl_exec | (rw [ret_then]; sl_exec) | skip
  iapply (fill_store T w c K 3 3 4 4 7 3 4 rfl rfl (by decide) (off1_at 3 192#32 rfl) rfl ((show k0_pay86 (k0_pay85 (xdRows (k0_pay81 v542) 3) (expert w 3)) = _ from rfl).trans (hT 3))) $$ HP
  iintro HP
  first | sl_exec | (rw [ret_then]; sl_exec) | skip
  iapply (fill_fetch T w c K 7 3 4 4 7 8 rfl rfl (by decide) (by decide) rfl rfl rfl rfl rfl rfl rfl) $$ HP
  iintro HP
  first | sl_exec | (rw [ret_then]; sl_exec) | skip
  iapply (fill_send T w c K 3 4 4 4 8 3 4 rfl rfl (by decide) (by decide) (off2_at 3 192#32 rfl) rfl ⟨k0_dev6 c, k0_dev6_lt c⟩ (Fin.ext (k0_dev6_eq c)) rfl rfl) $$ HP
  iintro HP
  first | sl_exec | (rw [ret_then]; sl_exec) | skip
  iapply (fill_arrive T w c K 4 4 4 8 4 4 5 rfl rfl rfl (by decide) (by decide) rfl) $$ HP
  iintro HP
  first | sl_exec | (rw [ret_then]; sl_exec) | skip
  iapply (fill_expert T w c K 4 4 4 8 4 5 rfl rfl (by decide) (by decide) (by decide) rfl rfl rfl) $$ HP
  iintro HP
  first | sl_exec | (rw [ret_then]; sl_exec) | skip
  iapply (fill_peek T w c K 4 4 5 5 8 4 rfl (off1_at 4 256#32 rfl) rfl) $$ HP
  iintro %_ HP
  first | sl_exec | (rw [ret_then]; sl_exec) | skip
  iapply (fill_store T w c K 4 4 5 5 8 4 5 rfl rfl (by decide) (off1_at 4 256#32 rfl) rfl ((show k0_pay87 (xdRows (k0_pay81 v542) 4) (expert w 4) = _ from rfl).trans (hT 4))) $$ HP
  iintro HP
  first | sl_exec | (rw [ret_then]; sl_exec) | skip
  iapply (fill_send T w c K 4 5 5 5 8 4 5 rfl rfl (by decide) (by decide) (off2_at 4 256#32 rfl) rfl ⟨k0_dev7 c, k0_dev7_lt c⟩ (Fin.ext (k0_dev7_eq c)) rfl rfl) $$ HP
  iintro HP
  first | sl_exec | (rw [ret_then]; sl_exec) | skip
  iapply (fill_arrive T w c K 5 5 5 8 5 5 6 rfl rfl rfl (by decide) (by decide) rfl) $$ HP
  iintro HP
  first | sl_exec | (rw [ret_then]; sl_exec) | skip
  iapply (fill_expert T w c K 5 5 5 8 5 6 rfl rfl (by decide) (by decide) (by decide) rfl rfl rfl) $$ HP
  iintro HP
  first | sl_exec | (rw [ret_then]; sl_exec) | skip
  iapply (fill_peek T w c K 5 5 6 6 8 5 rfl (off1_at 5 320#32 rfl) rfl) $$ HP
  iintro %_ HP
  first | sl_exec | (rw [ret_then]; sl_exec) | skip
  iapply (fill_store T w c K 5 5 6 6 8 5 6 rfl rfl (by decide) (off1_at 5 320#32 rfl) rfl ((show k0_pay89 (k0_pay88 (xdRows (k0_pay81 v542) 5) (expert w 5)) = _ from rfl).trans (hT 5))) $$ HP
  iintro HP
  first | sl_exec | (rw [ret_then]; sl_exec) | skip
  iapply (fill_send T w c K 5 6 6 6 8 5 6 rfl rfl (by decide) (by decide) (off2_at 5 320#32 rfl) rfl ⟨k0_dev8 c, k0_dev8_lt c⟩ (Fin.ext (k0_dev8_eq c)) rfl rfl) $$ HP
  iintro HP
  first | sl_exec | (rw [ret_then]; sl_exec) | skip
  iapply (fill_arrive T w c K 6 6 6 8 6 6 7 rfl rfl rfl (by decide) (by decide) rfl) $$ HP
  iintro HP
  first | sl_exec | (rw [ret_then]; sl_exec) | skip
  iapply (fill_expert T w c K 6 6 6 8 6 7 rfl rfl (by decide) (by decide) (by decide) rfl rfl rfl) $$ HP
  iintro HP
  first | sl_exec | (rw [ret_then]; sl_exec) | skip
  iapply (fill_peek T w c K 6 6 7 7 8 6 rfl (off1_at 6 384#32 rfl) rfl) $$ HP
  iintro %_ HP
  first | sl_exec | (rw [ret_then]; sl_exec) | skip
  iapply (fill_store T w c K 6 6 7 7 8 6 7 rfl rfl (by decide) (off1_at 6 384#32 rfl) rfl ((show k0_pay91 (k0_pay90 (xdRows (k0_pay81 v542) 6) (expert w 6)) = _ from rfl).trans (hT 6))) $$ HP
  iintro HP
  first | sl_exec | (rw [ret_then]; sl_exec) | skip
  iapply (fill_send T w c K 6 7 7 7 8 6 7 rfl rfl (by decide) (by decide) (off2_at 6 384#32 rfl) rfl ⟨k0_dev9 c, k0_dev9_lt c⟩ (Fin.ext (k0_dev9_eq c)) rfl rfl) $$ HP
  iintro HP
  first | sl_exec | (rw [ret_then]; sl_exec) | skip
  iapply (fill_arrive T w c K 7 7 7 8 7 7 8 rfl rfl rfl (by decide) (by decide) rfl) $$ HP
  iintro HP
  first | sl_exec | (rw [ret_then]; sl_exec) | skip
  iapply (fill_expert T w c K 7 7 7 8 7 8 rfl rfl (by decide) (by decide) (by decide) rfl rfl rfl) $$ HP
  iintro HP
  first | sl_exec | (rw [ret_then]; sl_exec) | skip
  iapply (fill_peek T w c K 7 7 8 8 8 7 rfl (off1_at 7 448#32 rfl) rfl) $$ HP
  iintro %_ HP
  first | sl_exec | (rw [ret_then]; sl_exec) | skip
  iapply (fill_store T w c K 7 7 8 8 8 7 8 rfl rfl (by decide) (off1_at 7 448#32 rfl) rfl ((show k0_pay92 (xdRows (k0_pay81 v542) 7) (expert w 7) = _ from rfl).trans (hT 7))) $$ HP
  iintro HP
  first | sl_exec | (rw [ret_then]; sl_exec) | skip
  iapply (fill_send T w c K 7 8 8 8 8 7 8 rfl rfl (by decide) (by decide) (off2_at 7 448#32 rfl) rfl ⟨k0_dev10 c, k0_dev10_lt c⟩ (Fin.ext (k0_dev10_eq c)) rfl rfl) $$ HP
  iintro HP
  first | sl_exec | (rw [ret_then]; sl_exec) | skip
  ihave HP2 := (fill_end T w c K) $$ [HP Hr]
  · isplitl [HP] <;> iassumption
  icases HP2 with ⟨HP, Hw⟩
  iapply (pass_load T c K (far c 0) (far_own c) (off4_at c) rfl) $$ HP
  iintro HP
  sl_exec
  rw [out_written, ← ht]
  iapply (hops T c K _ v2 _ _ (mySlots c sc) cols _ _ (k0_pay93 v2 (mySlots c sc) (chunkT T (far c 0)))) $$ [HP Hs Ho Hx Hsc Hw Hk]
  isplitl [HP]; · iexact HP
  isplitl [Hs]; · iexact Hs
  isplitl [Ho]; · iexact Ho
  iintro %v ⟨HP, Ht, Ha, Ho⟩
  iapply Hk
  isplitl [HP]; · iexact HP
  isplitl [Ht]; · iexact Ht
  isplitl [Ha]; · iexact Ha
  isplitl [Hw]; · iexact Hw
  isplitl [Hx]; · iexact Hx
  isplitl [Hsc]; · iexact Hsc
  unfold out
  iexact Ho
end Cert.KernelIdeal.Hand
-- ==== Proof.Slots.lean ====
/- The slots of the tokens, counted down a column and along a row, and the buffers that hold them. -/
module

public import proofs.«01_k».proof.Proof.Own
public import Idealize.ShloMosaic.Lib.WritesUnit

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

open Cert.KernelIdeal.Gen

/-! ### Down the columns: a token per row -/

/-- The routes of the i-th 256 tokens, as a column. -/
def blkC (rt : Vec F S2048x1 .i32) (i : Fin 8) : Vec F S256x1 .i32 :=
  View.readAt (Elt F) (Memref.whole cc0_stg1_0).view
    (Rect.unit (s := S2048x1) ![256 * i.val, 0] S256x1.size (by revert i; decide)).toLoadRect rt

/-- The one-hot rows of 256 routes, as numbers. -/
def hotC (e : Vec F S256x1 .i32) : FVec F S256x32 .f32 :=
  sitofp .f32 (extui 32 (cmpi .eq (broadcastTo S256x32 (shapeCast S256x1 e shapeCasts_S256x1_S256x1 : IVec S256x1 32) broadcasts_S256x1_S256x32)
    (iota .tc S256x32 32 [1] iota_S256x32_d1_w32)) natLt_1_32)

/-- The running counts of the experts through 256 tokens, from the counts before them. -/
def cumC (carry : FVec F S1x32 .f32) (e : Vec F S256x1 .i32) : FVec F S256x32 .f32 :=
  addf (matmul dot_S256x256_S256x32_S256x32_1_0_0_1_n_n none (k0_pay1 (F := F)) (truncf .bf16 (hotC e) bitsLt_bf16_f32)
    (constant S256x32 .f32 0x00000000#32)) (broadcastTo S256x32 carry broadcasts_S1x32_S256x32)

/-- The last row of the running counts. -/
def nextC (cum : FVec F S256x32 .f32) : FVec F S1x32 .f32 := extractStridedSlice S1x32 ![255, 0] cum slices_S256x32_o255_0_S1x32

/-- The counts before the first token. -/
def noneC : FVec F S1x32 .f32 := broadcast S1x32 (Scalar.ofBits .f32 0x00000000#32 : F .f32)

/-- The running counts through the i-th 256 tokens. -/
def cumS (rt : Vec F S2048x1 .i32) : ℕ → FVec F S256x32 .f32
  | 0 => cumC noneC (blkC rt 0)
  | i + 1 => cumC (nextC (cumS rt i)) (blkC rt (Fin.ofNat 8 (i + 1)))

/-- The slots of 256 tokens from their running counts. -/
def slC (cum : FVec F S256x32 .f32) (e : Vec F S256x1 .i32) : IVec S256x1 32 :=
  let s : FVec F S256x1 .f32 := subf (shapeCast S256x1 (multiReduction .add [1] S256 (mulf cum (hotC e)) 0x00000000#32 reduces_S256x32_S256 (.inl rfl) rfl)
    shapeCasts_S256_S256x1) (broadcast S256x1 (Scalar.ofBits .f32 0x3F800000#32 : F .f32))
  shapeCast S256x1 (fptosi 32 (select (cmpf .olt s (broadcast S256x1 (Scalar.ofBits .f32 0x424C0000#32 : F .f32)))
    (addf (mulf (sitofp .f32 (shapeCast S256x1 e shapeCasts_S256x1_S256x1 : IVec S256x1 32)) (broadcast S256x1 (Scalar.ofBits .f32 0x42800000#32 : F .f32))) s)
    (broadcast S256x1 (Scalar.ofBits .f32 0x453B8000#32 : F .f32)))) shapeCasts_S256x1_S256x1

/-- The slots of all tokens, as a column. -/
def slotCol (rt : Vec F S2048x1 .i32) : Vec F S2048x1 .i32 := fun y =>
  slC (cumS rt ((y 0).val / 256)) (blkC rt (Fin.ofNat 8 ((y 0).val / 256))) (Shape.pair ⟨(y 0).val % 256, Nat.mod_lt _ (by decide)⟩ ⟨0, by decide⟩)

/-- The eight stores of the column of slots. -/
def colPieces (rt : Vec F S2048x1 .i32) : List (View.Piece (Elt F) S2048x1 .i32) :=
  View.tilePieces (s := S2048x1) S256x1.size (fun i : Fin 8 => ![256 * i.val, 0]) (by decide)
    (fun i => slC (cumS rt i.val) (blkC rt i)) 8 (le_refl 8)

/-- Read after the eight stores, the buffer is the column of slots. -/
theorem col_read {κ : _} {sp : _} (v : View sig κ sp S2048x1 .i32) (f : v.ty.Contents (Elt F)) (rt : Vec F S2048x1 .i32) :
    v.read (Elt F) (v.writes (Elt F) f (colPieces rt)) = slotCol rt := by
  funext y
  have h0 : (y 0).val < 2048 := (y 0).isLt
  have h1 : (y 1).val < 1 := (y 1).isLt
  have hi : (y 0).val / 256 < 8 := by omega
  refine (View.read_tilePieces v f S256x1.size _ _ _ 8 (le_refl 8) y ⟨(y 0).val / 256, hi⟩ hi
    (Shape.pair ⟨(y 0).val % 256, Nat.mod_lt _ (by decide)⟩ ⟨0, by decide⟩) (fun a => ?_) 0 (fun i' h => ?_)).trans ?_
  · match a with
    | 0 => show (y 0).val = 256 * ((y 0).val / 256) + (y 0).val % 256; omega
    | 1 => show (y 1).val = 0 + 0; omega
  · show (y 0).val < 256 * i'.val ∨ 256 * i'.val + 256 ≤ (y 0).val
    have : i'.val ≠ (y 0).val / 256 := fun e => h (Fin.ext e)
    omega
  · have e : (⟨(y 0).val / 256, hi⟩ : Fin 8) = Fin.ofNat 8 ((y 0).val / 256) := Fin.ext (Nat.mod_eq_of_lt hi).symm
    unfold slotCol
    rw [← e]

/-- The slot column's buffer after the eight stores. -/
theorem col_written (f : Vec F S2048x1 .i32) (rt : Vec F S2048x1 .i32) :
    (Memref.whole cc0_scratch2).view.writes (Elt F) f (colPieces rt) = slotCol rt :=
  (View.read_whole (Val := Elt F) cc0_scratch2 _).symm.trans (col_read (Memref.whole cc0_scratch2).view f rt)

/-! ### Along the rows: a token per column -/

/-- The routes of the i-th 256 tokens, as a row. -/
def blkR (rt : Vec F S1x2048 .i32) (i : Fin 8) : Vec F S1x256 .i32 :=
  View.readAt (Elt F) (Memref.whole cc0_stg2_0).view
    (Rect.unit (s := S1x2048) ![0, 256 * i.val] S1x256.size (by revert i; decide)).toLoadRect rt

/-- The one-hot columns of 256 routes, as numbers. -/
def hotR (e : Vec F S1x256 .i32) : FVec F S32x256 .f32 :=
  sitofp .f32 (extui 32 (cmpi .eq (iota .tc S32x256 32 [0] iota_S32x256_d0_w32)
    (broadcastTo S32x256 (shapeCast S1x256 e shapeCasts_S1x256_S1x256 : IVec S1x256 32) broadcasts_S1x256_S32x256)) natLt_1_32)

/-- The running counts of the experts through 256 tokens, from the counts before them. -/
def cumR (carry : FVec F S32x1 .f32) (e : Vec F S1x256 .i32) : FVec F S32x256 .f32 :=
  addf (matmul dot_S32x256_S256x256_S32x256_1_0_0_1_n_n none (truncf .bf16 (hotR e) bitsLt_bf16_f32) (k0_pay2 (F := F))
    (constant S32x256 .f32 0x00000000#32)) (broadcastTo S32x256 carry broadcasts_S32x1_S32x256)

/-- The last column of the running counts. -/
def nextR (cum : FVec F S32x256 .f32) : FVec F S32x1 .f32 := extractStridedSlice S32x1 ![0, 255] cum slices_S32x256_o0_255_S32x1

/-- The counts before the first token. -/
def noneR : FVec F S32x1 .f32 := broadcast S32x1 (Scalar.ofBits .f32 0x00000000#32 : F .f32)

/-- The running counts through the i-th 256 tokens. -/
def cumT (rt : Vec F S1x2048 .i32) : ℕ → FVec F S32x256 .f32
  | 0 => cumR noneR (blkR rt 0)
  | i + 1 => cumR (nextR (cumT rt i)) (blkR rt (Fin.ofNat 8 (i + 1)))

/-- The slots of 256 tokens from their running counts. -/
def slR (cum : FVec F S32x256 .f32) (e : Vec F S1x256 .i32) : IVec S1x256 32 :=
  let s : FVec F S1x256 .f32 := subf (shapeCast S1x256 (multiReduction .add [0] S256 (mulf cum (hotR e)) 0x00000000#32 reduces_S32x256_S256 (.inl rfl) rfl)
    shapeCasts_S256_S1x256) (broadcast S1x256 (Scalar.ofBits .f32 0x3F800000#32 : F .f32))
  shapeCast S1x256 (fptosi 32 (select (cmpf .olt s (broadcast S1x256 (Scalar.ofBits .f32 0x424C0000#32 : F .f32)))
    (addf (mulf (sitofp .f32 (shapeCast S1x256 e shapeCasts_S1x256_S1x256 : IVec S1x256 32)) (broadcast S1x256 (Scalar.ofBits .f32 0x42800000#32 : F .f32))) s)
    (broadcast S1x256 (Scalar.ofBits .f32 0x453B8000#32 : F .f32)))) shapeCasts_S1x256_S1x256

/-- The slots of all tokens, as a row. -/
def slotRow (rt : Vec F S1x2048 .i32) : Vec F S1x2048 .i32 := fun y =>
  slR (cumT rt ((y 1).val / 256)) (blkR rt (Fin.ofNat 8 ((y 1).val / 256))) (Shape.pair ⟨0, by decide⟩ ⟨(y 1).val % 256, Nat.mod_lt _ (by decide)⟩)

/-- The eight stores of the row of slots. -/
def rowPieces (rt : Vec F S1x2048 .i32) : List (View.Piece (Elt F) S1x2048 .i32) :=
  View.tilePieces (s := S1x2048) S1x256.size (fun i : Fin 8 => ![0, 256 * i.val]) (by decide)
    (fun i => slR (cumT rt i.val) (blkR rt i)) 8 (le_refl 8)

/-- Read after the eight stores, the buffer is the row of slots. -/
theorem row_read {κ : _} {sp : _} (v : View sig κ sp S1x2048 .i32) (f : v.ty.Contents (Elt F)) (rt : Vec F S1x2048 .i32) :
    v.read (Elt F) (v.writes (Elt F) f (rowPieces rt)) = slotRow rt := by
  funext y
  have h0 : (y 0).val < 1 := (y 0).isLt
  have h1 : (y 1).val < 2048 := (y 1).isLt
  have hi : (y 1).val / 256 < 8 := by omega
  refine (View.read_tilePieces v f S1x256.size _ _ _ 8 (le_refl 8) y ⟨(y 1).val / 256, hi⟩ hi
    (Shape.pair ⟨0, by decide⟩ ⟨(y 1).val % 256, Nat.mod_lt _ (by decide)⟩) (fun a => ?_) 1 (fun i' h => ?_)).trans ?_
  · match a with
    | 0 => show (y 0).val = 0 + 0; omega
    | 1 => show (y 1).val = 256 * ((y 1).val / 256) + (y 1).val % 256; omega
  · show (y 1).val < 256 * i'.val ∨ 256 * i'.val + 256 ≤ (y 1).val
    have : i'.val ≠ (y 1).val / 256 := fun e => h (Fin.ext e)
    omega
  · have e : (⟨(y 1).val / 256, hi⟩ : Fin 8) = Fin.ofNat 8 ((y 1).val / 256) := Fin.ext (Nat.mod_eq_of_lt hi).symm
    unfold slotRow
    rw [← e]

/-- The slot row's buffer after the eight stores. -/
theorem row_written (f : Vec F S1x2048 .i32) (rt : Vec F S1x2048 .i32) :
    (Memref.whole cc0_scratch3).view.writes (Elt F) f (rowPieces rt) = slotRow rt :=
  (View.read_whole (Val := Elt F) cc0_scratch3 _).symm.trans (row_read (Memref.whole cc0_scratch3).view f rt)

/-- The slot row loaded whole after the eight stores. -/
theorem row_loaded (rt : Vec F S1x2048 .i32) :
    View.readCov (Val := Elt F) (Memref.whole cc0_scratch3).view (rowPieces rt)
      (Rect.unit ![0, 0] S1x2048.size inb_S1x2048_S1x2048_0_0).toLoadRect = slotRow rt :=
  (View.readAt_full (Val := Elt F) (View.whole cc0_scratch3) _ inb_S1x2048_S1x2048_0_0).trans (row_read (View.whole cc0_scratch3) _ rt)

end Cert.KernelIdeal.Hand
-- ==== Proof.First.lean ====
/- From the start of the body to its last two waits: the meeting, the slots, the dispatch, the blocks. -/
module

public import proofs.«01_k».proof.Proof.Slots

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

open Cert.KernelIdeal.Gen

/-- What device c comes to the meeting with, besides its buffers. -/
def meeting (T : Tab F) (K : GSem nD τ sig → ℕ) (c : Dev nD) : sProp 𝕄 :=
  iprop(invs T K c ∗ cellInv ER (Rd T) (K (barCell c)) (barCell c) ∗ cellInv ER (Rd T) (K (barCell (pv c))) (barCell (pv c))
    ∗ cellInv ER (Rd T) (K (barCell (nx c))) (barCell (nx c)) ∗ reached ER (barCell (pv c)) 0 ∗ reached ER (barCell (nx c)) 0
    ∗ levAts L lv ∗ bigSep Finset.univ (fun j : Ch => reached ER (recvCell j c) 0))

/-- The tokens, credits and places device c's own ends start at. -/
def starting (c : Dev nD) : sProp 𝕄 :=
  iprop(dutyTok ER (barCell (pv c)) 0 0 ∗ dutyTok ER (barCell (nx c)) 0 1 ∗ cred (tallyAt (barCell c) () 2)
    ∗ atPos ER (barCell c) 0 ∅ 0 ∗ toks (F := F) c ∗ recvs c ∗ sends c)

/-- The device's place, and its first slot, as the kernel computes them. -/
def meW (c : Dev nD) : BitVec 32 := Scalar.remsi (Scalar.divsi (BitVec.ofNat 32 c.val) 1#32) 4#32
def loW (c : Dev nD) : BitVec 32 := Scalar.muli (meW c) 512#32

/-- The tokens dispatched to the device's experts, one per slot. -/
def dispd (c : Dev nD) (x : Vec F S2048x1024 .f32) (rtr : Vec F S1x2048 .i32) : Vec F S512x1024 .bf16 :=
  k0_pay81 (k0_pay80 (loW c) (slotRow rtr) x)

set_option maxHeartbeats 1600000 in
/-- All but the last two waits: the meeting, the slots, the dispatch, and the rest of the body. -/
theorem first (T : Tab F) (w : Wts F) (c : Dev nD) (K : GSem nD τ sig → ℕ) (W : Waits sig Unit) (Q : _ → sProp (MT nD τ sig Unit (Elt F) ℕ UU ℕ))
    (x : Vec F S2048x1024 .f32) (rtc : Vec F S2048x1 .i32) (rtr : Vec F S1x2048 .i32) (f : Tab F)
    (xd : Vec F S512x1024 .bf16) (sc : Vec F S2048x1 .i32) (sr : Vec F S1x2048 .i32) (o : Vec F S512x1024 .f32)
    (hT : ∀ e : Fin 8, k0_pay82 (xdRows (dispd c x rtr) e) (expert w e) = blkT T (ownB e c)) :
    iprop(meeting T K c ∗ starting (F := F) c ∗ owes (c : Thread nD τ) (O₀ c) W ∗ tb c fullShare Finset.univ f ∗ rests w c
        ∗ held c (Memref.whole cc0_stg0_0) x ∗ held c (Memref.whole cc0_stg1_0) rtc ∗ held c (Memref.whole cc0_stg2_0) rtr
        ∗ held c (Memref.whole cc0_scratch1) xd ∗ held c (Memref.whole cc0_scratch2) sc ∗ held c (Memref.whole cc0_scratch3) sr
        ∗ held c (Memref.whole cc0_stg3_0) o
        ∗ (∀ v, (Over T c K 22 ∗ tb c fullShare.right Finset.univ T ∗ bigSep Finset.univ (fun j : Ch => atPos ER (recvCell j c) (0 + 1) ∅ 0)
            ∗ atPos ER (barCell c) (0 + 1) ∅ 0 ∗ rests w c
            ∗ held c (Memref.whole cc0_stg0_0) x ∗ held c (Memref.whole cc0_stg1_0) rtc ∗ held c (Memref.whole cc0_stg2_0) rtr
            ∗ held c (Memref.whole cc0_scratch1) (dispd c x rtr) ∗ held c (Memref.whole cc0_scratch2) (slotCol rtc)
            ∗ held c (Memref.whole cc0_scratch3) (slotRow rtr)
            ∗ held c (Memref.whole cc0_stg3_0) (out T c (meW c) (slotCol rtc))) -∗ Q ⟨c, v⟩))
      ⊢ wp frame (wpE (defs₀ (F := F)) 𝒱₀ (c : Thread nD τ) none) Set.univ
        (k0_part44 (F := F) (Memref.whole cc0_stg0_0) (Memref.isWhole_whole _) (Memref.whole cc0_stg1_0) (Memref.isWhole_whole _)
          (Memref.whole cc0_stg2_0) (Memref.isWhole_whole _) (Memref.whole main_arg3) (Memref.isWhole_whole _)
          (Memref.whole cc0_stg3_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scratch7 cc0_scratch8 cc0_scratch9) Q := by
  unfold meeting starting
  iintro ⟨⟨#HI, #HB, #HBp, #HBn, #Hrp, #Hrn, #Hlev, #Hrr0⟩, ⟨Htp, Htn, Hcb, Hab, Htk, Hrv, Hsd⟩, HO, Ht, Hw, Hx, Hrc, Hrr, Hxd, Hsc, Hsr, Ho, Hk⟩
  ihave Hg := (spread c f) $$ [Ht]
  · isplitl [Ht]; · iexact Ht
    iexact Hrr0
  icases Hg with ⟨⟨%f', Ht⟩, Hg0, Hg1⟩
  rw [part44_tails]
  generalize ht : tail14 (F := F) = t
  sl_exec
  iapply (step_signal T c (K (barCell (pv c))) 0 (pv c) rfl (owed c 0 + tallyAt (barCell (nx c)) () 1) (O₀ c) rfl
    (Fin.ext (k0_dev1_eq c)) rfl rfl) $$ [HO Htp Hg0]
  · isplitr; · iexact HBp
    isplitl [HO]; · iexact HO
    isplitl [Htp]; · iexact Htp
    isplitl [Hg0]; · iexact Hg0
    iexact Hrp
  iintro HO
  sl_exec
  iapply (step_signal T c (K (barCell (nx c))) 1 (nx c) rfl (owed c 0) _ rfl
    (Fin.ext (k0_dev2_eq c)) rfl rfl) $$ [HO Htn Hg1]
  · isplitr; · iexact HBn
    isplitl [HO]; · iexact HO
    isplitl [Htn]; · iexact Htn
    isplitl [Hg1]; · iexact Hg1
    iexact Hrn
  iintro HO
  sl_exec
  iapply (step_meet T c (K (barCell c)) rfl rfl) $$ [HO Hcb Hab Htk]
  · isplitr; · iexact HB
    isplitr; · iexact Hlev
    isplitl [HO]; · iexact HO
    isplitl [Hcb]; · iexact Hcb
    isplitl [Hab]; · iexact Hab
    iexact Htk
  iintro ⟨HO, Hab, HS, #Hop⟩
  ihave HP := (fill_start T w c K f') $$ [HO HS Ht Hw]
  · unfold env owing
    isplitr
    · isplitr; · iexact HI
      isplitr; · iexact Hop
      iexact Hlev
    isplitl [HS]; · iexact HS
    isplitl [HO]; · iexact HO
    isplitl [Ht]; · iexact Ht
    iexact Hw
  sl_exec
  iapply (fill_fetch T w c K 0 0 0 0 0 1 rfl rfl (by decide) (by decide) rfl rfl rfl rfl rfl rfl rfl) $$ HP
  iintro HP
  sl_exec
  iapply (fill_fetch T w c K 1 0 0 0 1 2 rfl rfl (by decide) (by decide) rfl rfl rfl rfl rfl rfl rfl) $$ HP
  iintro HP
  sl_exec
  iapply (fill_fetch T w c K 2 0 0 0 2 3 rfl rfl (by decide) (by decide) rfl rfl rfl rfl rfl rfl rfl) $$ HP
  iintro HP
  sl_exec
  iapply (fill_fetch T w c K 3 0 0 0 3 4 rfl rfl (by decide) (by decide) rfl rfl rfl rfl rfl rfl rfl) $$ HP
  iintro HP
  sl_exec
  have hcol : ∀ L, L = colPieces rtc → (Memref.whole cc0_scratch2).view.writes (Elt F) sc L = slotCol rtc := by
    rintro _ rfl; exact col_written sc rtc
  rw [hcol _ ?hc]
  case hc => rfl
  have hrow : ∀ L, L = rowPieces rtr → (Memref.whole cc0_scratch3).view.writes (Elt F) sr L = slotRow rtr := by
    rintro _ rfl; exact row_written sr rtr
  rw [hrow _ ?hr]
  case hr => rfl
  have hx : first.sl.r_30 c x rtr = k0_pay80 (loW c) (slotRow rtr) x := by
    have h1 : first.sl.v532 rtr = slotRow rtr := (show first.sl.v532 rtr = View.readCov (Val := Elt F) (Memref.whole cc0_scratch3).view (rowPieces rtr)
      (Rect.unit ![0, 0] S1x2048.size inb_S1x2048_S1x2048_0_0).toLoadRect from rfl).trans (row_loaded rtr)
    unfold first.sl.r_30
    have h2 : View.readAt (Elt F) (Memref.whole cc0_stg0_0).view (Rect.unit ![0, 0] S2048x1024.size inb_S2048x1024_S2048x1024_0_0).toLoadRect x = x :=
      whole_load cc0_stg0_0 x inb_S2048x1024_S2048x1024_0_0
    rw [h1, h2]
    rfl
  rw [hx, ← ht]
  iapply (own T w c K Q (first.sl.v2 c) (first.sl.v4 c) (first.sl.v6 c) (first.sl.v7 c) (k0_pay80 (loW c) (slotRow rtr) x) (first.sl.r_31 xd) xd (slotCol rtc) o hT)
  isplitl [HP]; · iexact HP
  isplitl [Hrv]; · iexact Hrv
  isplitl [Hsd]; · iexact Hsd
  isplitl [Hxd]; · iexact Hxd
  isplitl [Hsc]; · iexact Hsc
  isplitl [Ho]; · iexact Ho
  iintro %v ⟨HV, Ht, Hrv, Hw, Hxd, Hsc, Ho⟩
  iapply Hk
  isplitl [HV]; · iexact HV
  isplitl [Ht]; · iexact Ht
  isplitl [Hrv]; · iexact Hrv
  isplitl [Hab]; · iexact Hab
  isplitl [Hw]; · iexact Hw
  isplitl [Hx]; · iexact Hx
  isplitl [Hrc]; · iexact Hrc
  isplitl [Hrr]; · iexact Hrr
  isplitl [Hxd]; · iexact Hxd
  isplitl [Hsc]; · iexact Hsc
  isplitl [Hsr]; · iexact Hsr
  iexact Ho
end Cert.KernelIdeal.Hand
-- ==== Proof.Body.lean ====
/- The whole body of one device: the exchange, the last two waits, and every counter closed at zero. -/
module

public import proofs.«01_k».proof.Proof.First

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

open Cert.KernelIdeal.Gen

variable (T : Tab F)

/-- What device c ends with, beside the buffers of its own: its counters at zero, its table whole at
    T, its weights, its slots, and nothing owed. -/
def ended (w : Wts F) (c : Dev nD) : sProp 𝕄 :=
  iprop(tb c fullShare Finset.univ T ∗ semVal (barCell c) 0
    ∗ (bigSep Finset.univ fun j : Ch => (semVal (sendCell j c) 0 : sProp 𝕄)) ∗ (bigSep Finset.univ fun j : Ch => (semVal (recvCell j c) 0 : sProp 𝕄))
    ∗ rests w c ∗ ∃ W, owes (c : Thread nD τ) 0 W)

theorem close_bar (κ : ℕ) (c : Dev nD) :
    iprop(cellInv ER (Rd T) κ (barCell c) ∗ atPos ER (barCell c) (0 + 1) ∅ 0) ⊢ (|={Set.univ}=> semVal (barCell c) 0 : sProp 𝕄) :=
  Rounds.cell_close ER (Rd T) (Set.mem_univ κ) id (duties_later T (barCell c))
theorem close_each (K : GSem nD τ sig → ℕ) (g : Ch → GSem nD τ sig) :
    iprop((bigSep Finset.univ fun j : Ch => (cellInv ER (Rd T) (K (g j)) (g j) : sProp 𝕄)) ∗ bigSep Finset.univ fun j : Ch => (atPos ER (g j) (0 + 1) ∅ 0 : sProp 𝕄))
      ⊢ (|={Set.univ}=> bigSep Finset.univ fun j : Ch => semVal (g j) 0 : sProp 𝕄) :=
  (each_in _ _ _).trans (Rounds.cells_close ER (Rd T) Finset.univ g (fun j => K (g j)) (fun _ _ => Set.mem_univ _) (fun _ _ => id) (fun _ => 0 + 1)
    fun j _ => duties_later T (g j))
theorem invs_send (K : GSem nD τ sig → ℕ) (c : Dev nD) : (invs T K c : sProp 𝕄) ⊢ bigSep Finset.univ fun j : Ch => cellInv ER (Rd T) (K (sendCell j c)) (sendCell j c) := by
  unfold invs
  exact each_to _ _ _ fun j => by iintro ⟨H, -⟩; iexact H
theorem invs_recv (K : GSem nD τ sig → ℕ) (c : Dev nD) : (invs T K c : sProp 𝕄) ⊢ bigSep Finset.univ fun j : Ch => cellInv ER (Rd T) (K (recvCell j c)) (recvCell j c) := by
  unfold invs
  exact each_to _ _ _ fun j => by iintro ⟨-, H, -⟩; iexact H

set_option maxHeartbeats 1600000 in
/-- The whole body of device c. -/
theorem body_run (w : Wts F) (c : Dev nD) (K : GSem nD τ sig → ℕ) (W : Waits sig Unit) (Q : PUnit → sProp (MT nD τ sig Unit (Elt F) ℕ UU ℕ))
    (x : Vec F S2048x1024 .f32) (rtc : Vec F S2048x1 .i32) (rtr : Vec F S1x2048 .i32) (f : Tab F)
    (xd : Vec F S512x1024 .bf16) (sc : Vec F S2048x1 .i32) (sr : Vec F S1x2048 .i32) (o : Vec F S512x1024 .f32)
    (hT : ∀ e : Fin 8, k0_pay82 (xdRows (dispd c x rtr) e) (expert w e) = blkT T (ownB e c)) :
    iprop(meeting T K c ∗ starting (F := F) c ∗ owes (c : Thread nD τ) (O₀ c) W ∗ tb c fullShare Finset.univ f ∗ rests w c
        ∗ held c (Memref.whole cc0_stg0_0) x ∗ held c (Memref.whole cc0_stg1_0) rtc ∗ held c (Memref.whole cc0_stg2_0) rtr
        ∗ held c (Memref.whole cc0_scratch1) xd ∗ held c (Memref.whole cc0_scratch2) sc ∗ held c (Memref.whole cc0_scratch3) sr
        ∗ held c (Memref.whole cc0_stg3_0) o
        ∗ ((ended T w c
            ∗ held c (Memref.whole cc0_stg0_0) x ∗ held c (Memref.whole cc0_stg1_0) rtc ∗ held c (Memref.whole cc0_stg2_0) rtr
            ∗ held c (Memref.whole cc0_scratch1) (dispd c x rtr) ∗ held c (Memref.whole cc0_scratch2) (slotCol rtc)
            ∗ held c (Memref.whole cc0_scratch3) (slotRow rtr)
            ∗ held c (Memref.whole cc0_stg3_0) (out T c (meW c) (slotCol rtc))) -∗ Q ⟨⟩))
      ⊢ wp frame (wpE (defs₀ (F := F)) 𝒱₀ (c : Thread nD τ) none) Set.univ
        (cc0_body (F := F) (Memref.whole cc0_stg0_0) (Memref.isWhole_whole _) (Memref.whole cc0_stg1_0) (Memref.isWhole_whole _)
          (Memref.whole cc0_stg2_0) (Memref.isWhole_whole _) (Memref.whole main_arg3) (Memref.isWhole_whole _)
          (Memref.whole cc0_stg3_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scratch7 cc0_scratch8 cc0_scratch9) Q := by
  rw [cc0_body_eq_skeleton]
  unfold cc0_body_skel
  rw [wp_bind]
  iintro ⟨Hm, Hst, HO, Ht, Hw, Hx, Hrc, Hrr, Hxd, Hsc, Hsr, Ho, Hk⟩
  unfold meeting
  icases Hm with ⟨#HI, #HB, #HBp, #HBn, #Hrp, #Hrn, #Hlev, #Hrr0⟩
  iapply (first T w c K W _ x rtc rtr f xd sc sr o hT)
  isplitr
  · unfold meeting
    isplitr; · iexact HI
    isplitr; · iexact HB
    isplitr; · iexact HBp
    isplitr; · iexact HBn
    isplitr; · iexact Hrp
    isplitr; · iexact Hrn
    isplitr; · iexact Hlev
    iexact Hrr0
  isplitl [Hst]; · iexact Hst
  isplitl [HO]; · iexact HO
  isplitl [Ht]; · iexact Ht
  isplitl [Hw]; · iexact Hw
  isplitl [Hx]; · iexact Hx
  isplitl [Hrc]; · iexact Hrc
  isplitl [Hrr]; · iexact Hrr
  isplitl [Hxd]; · iexact Hxd
  isplitl [Hsc]; · iexact Hsc
  isplitl [Hsr]; · iexact Hsr
  isplitl [Ho]; · iexact Ho
  iintro %v ⟨HP, Ht, Hrv, Hab, Hw, Hx, Hrc, Hrr, Hxd, Hsc, Hsr, Ho⟩
  sl_exec
  iapply (over_wait T c K 22 22 23 rfl rfl rfl) $$ HP
  iintro HP
  sl_exec
  iapply (over_wait T c K 23 23 24 rfl rfl rfl) $$ HP
  iintro HP
  rw [show (Pure.pure PUnit.unit : Prog (TpuEff nD τ sig (Elt F) Λ₀ .tc) PUnit) = Prog.ret PUnit.unit from rfl, wp_ret]
  ihave HE := (over_end T c K) $$ [HP Ht]
  · isplitl [HP]; · iexact HP
    iexact Ht
  icases HE with ⟨Ht, Hse, HO⟩
  imod (close_bar T (K (barCell c)) c) $$ [Hab] with Hb
  · isplitr; · iexact HB
    iexact Hab
  imod (close_each T K fun j => sendCell j c) $$ [Hse] with Hse
  · isplitr
    · iapply (invs_send T K c); iexact HI
    iexact Hse
  imod (close_each T K fun j => recvCell j c) $$ [Hrv] with Hrv
  · isplitr
    · iapply (invs_recv T K c); iexact HI
    iexact Hrv
  imodintro
  iapply Hk
  unfold ended
  isplitl [Ht Hb Hse Hrv Hw HO]
  · isplitl [Ht]; · iexact Ht
    isplitl [Hb]; · iexact Hb
    isplitl [Hse]; · iexact Hse
    isplitl [Hrv]; · iexact Hrv
    isplitl [Hw]; · iexact Hw
    iexact HO
  isplitl [Hx]; · iexact Hx
  isplitl [Hrc]; · iexact Hrc
  isplitl [Hrr]; · iexact Hrr
  isplitl [Hxd]; · iexact Hxd
  isplitl [Hsc]; · iexact Hsc
  isplitl [Hsr]; · iexact Hsr
  iexact Ho
end Cert.KernelIdeal.Hand
-- ==== Proof.Entry.lean ====
/- The region's proof data: what each buffer holds, the table all devices fill, and the body's obligation. -/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk
public import Idealize.ShloMosaic.Lib.Pipeline.ValueKit.Geometry

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

open Cert.KernelIdeal.Gen

variable (m : (ℓ : Loc nD τ sig) → Buf (Elt F) ℓ)

/-! ## What the arrays hold -/

/-- Device c's tokens, its routes as a column and as a row, and its experts. -/
def xOf (c : Dev nD) : Vec F S2048x1024 .f32 := V m c main_arg0
def colOf (c : Dev nD) : Vec F S2048x1 .i32 := V m c main_arg2
def rowOf (c : Dev nD) : Vec F S1x2048 .i32 := V m c main_v1
def wOf (c : Dev nD) : Wts F := V m c main_arg3

/-- The final table: block e of device d is what d computes for its e-th expert. -/
def tabOf : Tab F := fun i =>
  k0_pay82 (xdRows (dispd ⟨(i 0).val / 512, by have h : (i 0).val < 2048 := (i 0).2; show _ < 4; omega⟩
      (xOf m ⟨(i 0).val / 512, by have h : (i 0).val < 2048 := (i 0).2; show _ < 4; omega⟩)
      (rowOf m ⟨(i 0).val / 512, by have h : (i 0).val < 2048 := (i 0).2; show _ < 4; omega⟩))
      ⟨(i 0).val / 64 % 8, Nat.mod_lt _ (by decide)⟩)
    (expert (wOf m ⟨(i 0).val / 512, by have h : (i 0).val < 2048 := (i 0).2; show _ < 4; omega⟩) ⟨(i 0).val / 64 % 8, Nat.mod_lt _ (by decide)⟩)
    (fun
      | 0 => ⟨(i 0).val % 64, Nat.mod_lt _ (by decide)⟩
      | 1 => ⟨(i 1).val, (i 1).2⟩)

theorem tab_own (c : Dev nD) (e : Fin 8) :
    k0_pay82 (xdRows (dispd c (xOf m c) (rowOf m c)) e) (expert (wOf m c) e) = blkT (tabOf m) (ownB e c) := by
  funext y
  have hc : c.val < 4 := c.2
  have he := e.2
  have hy : (y 0).val < 64 := (y 0).2
  have h0 : (inBlk (ownB e c) y 0).val = 64 * (c.val * 8 + e.val) + (y 0).val := rfl
  unfold blkT tabOf
  have hd : (⟨(inBlk (ownB e c) y 0).val / 512, by have h : (inBlk (ownB e c) y 0).val < 2048 := (inBlk (ownB e c) y 0).2; show _ < 4; omega⟩ : Dev nD) = c :=
    Fin.ext (by show (inBlk (ownB e c) y 0).val / 512 = c.val; rw [h0]; omega)
  have hk : (⟨(inBlk (ownB e c) y 0).val / 64 % 8, Nat.mod_lt _ (by decide)⟩ : Fin 8) = e :=
    Fin.ext (by show (inBlk (ownB e c) y 0).val / 64 % 8 = e.val; rw [h0]; omega)
  rw [hd, hk]
  refine congrArg _ (funext fun a => ?_)
  match a with
  | 0 => exact Fin.ext (by show (y 0).val = (inBlk (ownB e c) y 0).val % 64; rw [h0]; omega)
  | 1 => rfl

/-- Device c's result. -/
def resOf (c : Dev nD) : Vec F S512x1024 .f32 := out (tabOf m) c (meW c) (slotCol (colOf m c))

/-- A device's buffers on entry to the region, and after it. -/
abbrev W₁ (c : Dev nD) : Valuation τ sig (Elt F) := StableHlo.after hostOps0 (fun b => m (c, b))
abbrev W₂ (c : Dev nD) : Valuation τ sig (Elt F) := Function.update (W₁ m c) (Proc.devRef .tc main_v2) (resOf m c)
theorem W₂_res (c : Dev nD) : W₂ m c main_v2 = resOf m c := Function.update_self ..
theorem W₂_of_ne (c : Dev nD) (b : DevRef τ sig) (h : b ≠ Proc.devRef .tc main_v2) : W₂ m c b = W₁ m c b := Function.update_of_ne h ..

/-! ## The proof data -/

abbrev adm : (p : Fin 1) → (pcfgs (F := F) p).Adm := fun p => (cfgs p).toPCfg_adm

/-- The scratch buffers, at some contents. -/
def scratches (c : Dev nD) : sProp 𝕄 := Pipeline.scopedRest spec0 c
/-- The barrier, the talk's semaphores and those of the weights, on device c, at zero. -/
def osem (k : Fin 52) : SemLoc sig := .dma (show DmaSem sig from (⟨4 + k.val, by have := k.2; omega⟩ : Fin 56))
def arg3At (c : Dev nD) : sProp 𝕄 := (Memref.whole main_arg3).view.loc (c : Thread nD τ) ↦{fullShare} wOf m c

/-- What the region starts from, beside its windows: the protocol opened, the weights' semaphores, the
    experts and the scratch buffers. -/
def Φ₀ (c : Dev nD) : sProp 𝕄 :=
  iprop((∃ K, meeting (tabOf m) K c) ∗ starting (F := F) c ∗ (bigSep Finset.univ fun k : Fin 4 => semVal ((c : Thread nD τ), .dma (wS k)) 0)
    ∗ arg3At m c ∗ scratches c ∗ ∃ r, prngReg c r)
/-- What it ends with. -/
def Φ₁ (c : Dev nD) : sProp 𝕄 :=
  iprop(semVal (barCell c) 0 ∗ Pipeline.ownSems0 osem c ∗ arg3At m c ∗ scratches c ∗ ∃ r, prngReg c r)

def dat0 (c : Dev nD) : Dat τ (Elt F) Unit ℕ UU ℕ cfg0 c where
  A w := V m c (Pipeline.arrRef spec0 w)
  after
    | 0 => fun _ => xOf m c
    | 1 => fun _ => colOf m c
    | 2 => fun _ => rowOf m c
    | 3 => fun _ => resOf m c
    | ⟨_ + 4, h⟩ => absurd h (Nat.not_lt.2 (Nat.le_add_left _ _))
  Φ t := if t.val = 0 then Φ₀ m c else Φ₁ m c
  q _ := fullShare
  owed t := if t.val = 0 then O₀ c else 0

def pdats : (p : Fin 1) → (c : Dev nD) → Dat τ (Elt F) Unit ℕ UU ℕ (Pipeline.pin (pcfgs (F := F)) adm p) c
  | 0 => dat0 m
  | ⟨_ + 1, h⟩ => absurd h (Nat.not_lt.2 (Nat.le_add_left _ _))

theorem blk_read0 (c : Dev nD) (t : Fin cfg0.N) : iblk m c 0 t = xOf m c :=
  funext fun x => congrArg (V m c main_arg0) (funext fun a => Fin.ext (Pipeline.Window.rect_emb_val_of_index_zero win0_0 t a rfl x))
theorem blk_read1 (c : Dev nD) (t : Fin cfg0.N) : iblk m c 1 t = colOf m c :=
  funext fun x => congrArg (V m c main_arg2) (funext fun a => Fin.ext (Pipeline.Window.rect_emb_val_of_index_zero win0_1 t a rfl x))
theorem blk_read2 (c : Dev nD) (t : Fin cfg0.N) : iblk m c 2 t = rowOf m c :=
  funext fun x => congrArg (V m c main_v1) (funext fun a => Fin.ext (Pipeline.Window.rect_emb_val_of_index_zero win0_2 t a rfl x))

/-! ## The body's obligation -/

theorem owed_first (c : Dev nD) : (dat0 (F := F) m c).owed t0_0.castSucc = O₀ c := by
  show (if (t0_0.castSucc : Fin (cfg0.N + 1)).val = 0 then O₀ c else 0) = O₀ c; exact if_pos rfl
theorem owed_zero (c : Dev nD) : (pdats (F := F) m 0 c).owed 0 = O₀ c := by
  show (if ((0 : Fin (cfg0.N + 1)).val = 0) then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]
theorem phi_first (c : Dev nD) : (dat0 (F := F) m c).Φ t0_0.castSucc = Φ₀ m c := by
  show (if (t0_0.castSucc : Fin (cfg0.N + 1)).val = 0 then Φ₀ m c else Φ₁ m c) = Φ₀ m c; exact if_pos rfl
theorem phi_succ (c : Dev nD) : (dat0 (F := F) m c).Φ t0_0.succ = Φ₁ m c := by
  show (if (t0_0.succ : Fin (cfg0.N + 1)).val = 0 then Φ₀ m c else Φ₁ m c) = Φ₁ m c; exact if_neg (by decide)
theorem phi_zero (c : Dev nD) : (pdats (F := F) m 0 c).Φ 0 = Φ₀ m c := by
  show (if ((0 : Fin (cfg0.N + 1)).val = 0) then Φ₀ m c else Φ₁ m c) = Φ₀ m c; exact if_pos rfl
theorem phi_last (c : Dev nD) : (pdats (F := F) m 0 c).Φ (Fin.last _) = Φ₁ m c := by
  show (if (Fin.last cfg0.N).val = 0 then Φ₀ m c else Φ₁ m c) = Φ₁ m c
  rw [Fin.val_last, if_neg (by rw [show cfg0.N = 1 from N_0]; decide)]

theorem owes_in {c : Dev nD} {cfg : Cfg sig Λ₀} (dat : Dat τ (Elt F) Unit ℕ UU ℕ cfg c) (t : Fin (cfg.N + 1))
    (O : CellTallies nD τ sig Unit) (h0 : dat.owed t = O) (W : Waits sig Unit) (hr : dat.recorded t = Set.univ) :
    (owes (c : Thread nD τ) O W : sProp 𝕄) ⊢ (dat.owesAt () t : sProp 𝕄) := by
  unfold Dat.owesAt Pipeline.owesWithin Dat.bound; rw [h0, hr]
  iintro HO; iexists W; isplitr; · ipureintro; exact fun _ _ => Or.inl trivial
  iexact HO
theorem owes_out {c : Dev nD} {cfg : Cfg sig Λ₀} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

theorem held_whole (c : Dev nD) (b : Ref sig .tc) (f : Buf (Elt F) ((Memref.whole b).view.loc (c : Thread nD τ))) :
    (held c (Memref.whole b) f : sProp 𝕄) = ((Memref.whole b).view.loc (c : Thread nD τ) ↦{fullShare} f) := by
  unfold held
  rw [show (Memref.whole b).view.set = Finset.univ from View.set_whole _]

/-- Numbers 4 to 55: the weights' four semaphores, the 24 send ones and the 24 receive ones. -/
def semIx : Fin 4 ⊕ (Ch ⊕ Ch) → Fin 52
  | .inl k => ⟨k.val, by omega⟩
  | .inr (.inl j) => ⟨(show Fin 56 from sendS j).val - 4, by have := (show Fin 56 from sendS j).2; omega⟩
  | .inr (.inr j) => ⟨(show Fin 56 from recvS j).val - 4, by have := (show Fin 56 from recvS j).2; omega⟩
theorem semIx_bij : Function.Bijective semIx := by decide +kernel
theorem osem_w (k : Fin 4) : osem (semIx (.inl k)) = .dma (wS k) := by revert k; decide +kernel
theorem osem_send (j : Ch) : osem (semIx (.inr (.inl j))) = .dma (sendS j) := by revert j; decide +kernel
theorem osem_recv (j : Ch) : osem (semIx (.inr (.inr j))) = .dma (recvS j) := by revert j; decide +kernel

theorem osem_eq (c : Dev nD) : (Pipeline.ownSems0 osem c : sProp 𝕄)
    = iprop((bigSep Finset.univ fun k : Fin 4 => semVal ((c : Thread nD τ), .dma (wS k)) 0)
        ∗ (bigSep Finset.univ fun j : Ch => semVal (sendCell j c) 0) ∗ (bigSep Finset.univ fun j : Ch => semVal (recvCell j c) 0)) := by
  unfold Pipeline.ownSems0
  rw [BI.bigSep_univ_equiv (Equiv.ofBijective semIx semIx_bij), BI.bigSep_univ_sum, BI.bigSep_univ_sum]
  simp only [Equiv.ofBijective_apply, osem_w, osem_send, osem_recv]
  rfl

theorem scratches_eq (c : Dev nD) : (scratches c : sProp 𝕄)
    = iprop((∃ f : Tab F, tb c fullShare Finset.univ f) ∗ (∃ f, held c (Memref.whole cc0_scratch1) f) ∗ (∃ f, held c (Memref.whole cc0_scratch2) f)
        ∗ (∃ f, held c (Memref.whole cc0_scratch3) f) ∗ (∃ f : Slots F, (Memref.whole cc0_scratch4).view.loc (c : Thread nD τ) ↦{fullShare} f)) := by
  unfold scratches tb
  rw [scopedRest0_eq, rowsIn_univ]
  have e1 (f) := held_whole (F := F) c cc0_scratch1 f
  have e2 (f) := held_whole (F := F) c cc0_scratch2 f
  have e3 (f) := held_whole (F := F) c cc0_scratch3 f
  rw [show (fun f => held c (Memref.whole cc0_scratch1) f : _ → sProp 𝕄) = _ from funext e1,
    show (fun f => held c (Memref.whole cc0_scratch2) f : _ → sProp 𝕄) = _ from funext e2,
    show (fun f => held c (Memref.whole cc0_scratch3) f : _ → sProp 𝕄) = _ from funext e3]
  refine congrArg₂ _ ?_ (congrArg₂ _ ?_ (congrArg₂ _ ?_ (congrArg₂ _ ?_ ?_)))
  · rfl
  · rfl
  · rfl
  · rfl
  · rfl

theorem found0 (c : Dev nD) (d) : (dat0 m c).before 0 t0_0 d = xOf m c :=
  ((dat0 m c).before_in_eq_fetched 0 rfl (fun _ => rfl) (fun _ _ _ => rfl) (fun t => (blk_read0 m c t).symm) t0_0 d).trans (blk_read0 m c t0_0)
theorem stage0 (c : Dev nD) (f) :
    (owns c ((cfg0.win 0).stage (cfg0.slots t0_0 0)) fullShare f : sProp 𝕄) = held c (Memref.whole cc0_stg0_0) f :=
  (owns_whole (c : Thread nD τ) cc0_stg0_0 fullShare _).trans (held_whole c cc0_stg0_0 _).symm
theorem found1 (c : Dev nD) (d) : (dat0 m c).before 1 t0_0 d = colOf m c :=
  ((dat0 m c).before_in_eq_fetched 1 rfl (fun _ => rfl) (fun _ _ _ => rfl) (fun t => (blk_read1 m c t).symm) t0_0 d).trans (blk_read1 m c t0_0)
theorem stage1 (c : Dev nD) (f) :
    (owns c ((cfg0.win 1).stage (cfg0.slots t0_0 1)) fullShare f : sProp 𝕄) = held c (Memref.whole cc0_stg1_0) f :=
  (owns_whole (c : Thread nD τ) cc0_stg1_0 fullShare _).trans (held_whole c cc0_stg1_0 _).symm
theorem found2 (c : Dev nD) (d) : (dat0 m c).before 2 t0_0 d = rowOf m c :=
  ((dat0 m c).before_in_eq_fetched 2 rfl (fun _ => rfl) (fun _ _ _ => rfl) (fun t => (blk_read2 m c t).symm) t0_0 d).trans (blk_read2 m c t0_0)
theorem stage2 (c : Dev nD) (f) :
    (owns c ((cfg0.win 2).stage (cfg0.slots t0_0 2)) fullShare f : sProp 𝕄) = held c (Memref.whole cc0_stg2_0) f :=
  (owns_whole (c : Thread nD τ) cc0_stg2_0 fullShare _).trans (held_whole c cc0_stg2_0 _).symm
theorem stage3 (c : Dev nD) (f) :
    (owns c ((cfg0.win 3).stage (cfg0.slots t0_0 3)) fullShare f : sProp 𝕄) = held c (Memref.whole cc0_stg3_0) f :=
  (owns_whole (c : Thread nD τ) cc0_stg3_0 fullShare _).trans (held_whole c cc0_stg3_0 _).symm

theorem rests_in (w : Wts F) (c : Dev nD) :
    iprop(((Memref.whole main_arg3).view.loc (c : Thread nD τ) ↦{fullShare} w) ∗ (bigSep Finset.univ fun k : Fin 4 => semVal ((c : Thread nD τ), .dma (wS k)) 0)
        ∗ ∃ f : Slots F, (Memref.whole cc0_scratch4).view.loc (c : Thread nD τ) ↦{fullShare} f) ⊢ (rests w c : sProp 𝕄) := by
  rw [exps_split]
  unfold rests
  iintro ⟨Hw, Hs, ⟨%f, Hf⟩⟩
  isplitl [Hw]; · iexact Hw
  ihave Hf := (Entails.of_eq (slots_split c f)) $$ Hf
  ihave H := (each_in Finset.univ (fun k : Fin 4 => slotP c k f) (fun k : Fin 4 => semVal ((c : Thread nD τ), .dma (wS k)) 0)) $$ [Hf Hs]
  · isplitl [Hf]; · iexact Hf
    iexact Hs
  iapply (each_to Finset.univ (fun k : Fin 4 => iprop(slotP c k f ∗ semVal ((c : Thread nD τ), .dma (wS k)) 0)) _ fun k => show _ ⊢ idleW (F := F) c k from by
    unfold idleW
    iintro ⟨H1, H2⟩
    isplitl [H1]; · iexists f; iexact H1
    iexact H2)
  iexact H

/-- The four slots, each at something, are the whole buffer at something. -/
theorem slots_any (c : Dev nD) : (bigSep Finset.univ fun k : Fin 4 => iprop(∃ f : Slots F, slotP c k f))
    ⊢ (iprop(∃ f : Slots F, (Memref.whole cc0_scratch4).view.loc (c : Thread nD τ) ↦{fullShare} f) : sProp 𝕄) := by
  iintro H
  haveI : Nonempty (Slots F) := ⟨fun _ => (Elt.inhabited F .f32).default⟩
  ihave H := (bigSep_exists_pi Finset.univ) $$ H
  icases H with ⟨%g, H⟩
  iexists (fun i => g ⟨(i 0).val, (i 0).2⟩ i)
  iapply (Entails.of_eq (slots_split c _).symm)
  iapply (each_to _ _ _ fun k => show slotP c k (g k) ⊢ slotP c k (fun i => g ⟨(i 0).val, (i 0).2⟩ i) from Entails.of_eq (by
    unfold slotP
    refine pointsTo_congr fun i hi => ?_
    have h : (⟨(i 0).val, (i 0).2⟩ : Fin 4) = k := Fin.ext (Finset.mem_filter.mp hi).2
    rw [h]))
  iexact H

theorem rests_out (w : Wts F) (c : Dev nD) : (rests w c : sProp 𝕄)
    ⊢ iprop(((Memref.whole main_arg3).view.loc (c : Thread nD τ) ↦{fullShare} w) ∗ (bigSep Finset.univ fun k : Fin 4 => semVal ((c : Thread nD τ), .dma (wS k)) 0)
        ∗ ∃ f : Slots F, (Memref.whole cc0_scratch4).view.loc (c : Thread nD τ) ↦{fullShare} f) := by
  rw [exps_split]
  unfold rests idleW
  iintro ⟨Hw, H⟩
  ihave H := (each_out Finset.univ (fun k : Fin 4 => iprop(∃ f : Slots F, slotP c k f)) (fun k : Fin 4 => semVal ((c : Thread nD τ), .dma (wS k)) 0)) $$ H
  icases H with ⟨Hf, Hs⟩
  isplitl [Hw]; · iexact Hw
  isplitl [Hs]; · iexact Hs
  iapply (slots_any c); iexact Hf

set_option maxHeartbeats 1600000 in
/-- Device c's body meets what the windows ask of it. -/
theorem body0 (c : Dev nD) : BodyObligation (dat0 (F := F) m c) defs₀ 𝒱₀ () Set.univ := fun t => by
  obtain rfl := fin_N0 t
  rw [bigSep_W0, bigSep_W0, phi_first, phi_succ]
  unfold Φ₀
  iintro ⟨⟨⟨%K, Hm⟩, Hst, Hsw, Hw, Hscr, Hreg⟩, HO, ⟨%d0, H0⟩, ⟨%d1, H1⟩, ⟨%d2, H2⟩, ⟨%d3, H3⟩⟩
  ihave HO' := (owes_out (dat0 m c) _ (O₀ c) (owed_first m c)) $$ HO
  icases HO' with ⟨%W, HO⟩
  ihave Hscr := (Entails.of_eq (scratches_eq (F := F) c)) $$ Hscr
  icases Hscr with ⟨⟨%ft, Ht⟩, ⟨%xd, Hxd⟩, ⟨%sc, Hsc⟩, ⟨%sr, Hsr⟩, Hsl⟩
  ihave H0 := (Entails.of_eq ((congrArg (owns c _ fullShare) (found0 m c d0)).trans (stage0 (F := F) c _))) $$ H0
  ihave H1 := (Entails.of_eq ((congrArg (owns c _ fullShare) (found1 m c d1)).trans (stage1 (F := F) c _))) $$ H1
  ihave H2 := (Entails.of_eq ((congrArg (owns c _ fullShare) (found2 m c d2)).trans (stage2 (F := F) c _))) $$ H2
  ihave H3 := (Entails.of_eq (stage3 (F := F) c _)) $$ H3
  ihave Hr := (rests_in (wOf m c) c) $$ [Hw Hsw Hsl]
  · isplitl [Hw]; · unfold arg3At; iexact Hw
    isplitl [Hsw]; · iexact Hsw
    iexact Hsl
  iapply (body_run (tabOf m) (wOf m c) c K W _ (xOf m c) (colOf m c) (rowOf m c) ft xd sc sr _ (tab_own m c))
  isplitl [Hm]; · iexact Hm
  isplitl [Hst]; · iexact Hst
  isplitl [HO]; · iexact HO
  isplitl [Ht]; · iexact Ht
  isplitl [Hr]; · iexact Hr
  isplitl [H0]; · iexact H0
  isplitl [H1]; · iexact H1
  isplitl [H2]; · iexact H2
  isplitl [Hxd]; · iexact Hxd
  isplitl [Hsc]; · iexact Hsc
  isplitl [Hsr]; · iexact Hsr
  isplitl [H3]; · iexact H3
  unfold ended
  iintro ⟨⟨Ht, Hb, Hss, Hsv, Hr, ⟨%W', HO⟩⟩, H0, H1, H2, Hxd, Hsc, Hsr, H3⟩
  ihave Hr := (rests_out (wOf m c) c) $$ Hr
  icases Hr with ⟨Hw, Hsw, Hsl⟩
  unfold Φ₁
  isplitr [HO H0 H1 H2 H3]
  · isplitl [Hb]; · iexact Hb
    isplitl [Hss Hsv Hsw]
    · rw [osem_eq]
      isplitl [Hsw]; · iexact Hsw
      isplitl [Hss]; · iexact Hss
      iexact Hsv
    isplitl [Hw]; · unfold arg3At; iexact Hw
    isplitr [Hreg]
    · iapply (Entails.of_eq (scratches_eq (F := F) c).symm)
      isplitl [Ht]; · iexists _; iexact Ht
      isplitl [Hxd]; · iexists _; iexact Hxd
      isplitl [Hsc]; · iexists _; iexact Hsc
      isplitl [Hsr]; · iexists _; iexact Hsr
      iexact Hsl
    iexact Hreg
  isplitl [HO]; · iapply (owes_in (dat0 m c) t0_0.succ 0 (owed_last m c) W' rfl); iexact HO
  isplitl [H0]; · iapply (Entails.of_eq (stage0 (F := F) c _).symm); iexact H0
  isplitl [H1]; · iapply (Entails.of_eq (stage1 (F := F) c _).symm); iexact H1
  isplitl [H2]; · iapply (Entails.of_eq (stage2 (F := F) c _).symm); iexact H2
  iapply (Entails.of_eq (stage3 (F := F) c _).symm); iexact H3

end Cert.KernelIdeal.Hand
-- ==== Proof.Region.lean ====
/- The kernel's region, entered from the buffers and the talk's tokens, left with every counter at zero. -/
module

public import proofs.«01_k».proof.Proof.Entry

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

open Cert.KernelIdeal.Gen

variable (m : (ℓ : Loc nD τ sig) → Buf (Elt F) ℓ)

/-! ## The cells of the conversation -/

/-- A send or a receive semaphore. -/
def talkS : Ch ⊕ Ch → DmaSem sig
  | .inl j => sendS j
  | .inr j => recvS j
theorem talkS_inj : Function.Injective talkS := by decide +kernel

def barEmb : Dev nD ↪ GSem nD τ sig := ⟨fun c => barCell c, fun _ _ h => congrArg (fun g : GSem nD τ sig => g.1.1) h⟩
def talkEmb : Dev nD × (Ch ⊕ Ch) ↪ GSem nD τ sig :=
  ⟨fun ck => ((ck.1 : Thread nD τ), .dma (talkS ck.2)), fun _ _ h =>
    Prod.ext (congrArg (fun g : GSem nD τ sig => g.1.1) h) (talkS_inj (SemLoc.dma.inj (congrArg Prod.snd h)))⟩
/-- The barriers, live from the launch; the talk's cells, opened on entry to the region. -/
abbrev barCells : Finset (GSem nD τ sig) := Finset.univ.map barEmb
abbrev talkCells : Finset (GSem nD τ sig) := Finset.univ.map talkEmb

theorem cells_apart : Disjoint (barCells : Finset (GSem nD τ sig)) talkCells := by
  rw [Finset.disjoint_left]
  rintro g h₁ h₂
  obtain ⟨c, -, rfl⟩ := Finset.mem_map.mp h₁
  obtain ⟨ck, -, h⟩ := Finset.mem_map.mp h₂
  have h' : (SemLoc.dma (talkS ck.2) : SemLoc sig) = .reg barS := congrArg (fun g : GSem nD τ sig => g.2) h
  exact absurd h' (by simp)
theorem bar_mem (c : Dev nD) : barCell c ∈ (barCells ∪ talkCells : Finset (GSem nD τ sig)) :=
  Finset.mem_union_left _ (Finset.mem_map_of_mem barEmb (Finset.mem_univ c))
theorem send_mem (j : Ch) (c : Dev nD) : sendCell j c ∈ (barCells ∪ talkCells : Finset (GSem nD τ sig)) :=
  Finset.mem_union_right _ (Finset.mem_map_of_mem talkEmb (Finset.mem_univ (c, Sum.inl j)))
theorem recv_mem (j : Ch) (c : Dev nD) : recvCell j c ∈ (barCells ∪ talkCells : Finset (GSem nD τ sig)) :=
  Finset.mem_union_right _ (Finset.mem_map_of_mem talkEmb (Finset.mem_univ (c, Sum.inr j)))

/-- What every device may consult: all the invariants, and the first round of every barrier. -/
def records (K : GSem nD τ sig → ℕ) : sProp 𝕄 :=
  iprop((bigSep (barCells ∪ talkCells) fun g => cellInv ER (Rd (tabOf m)) (K g) g) ∗ bigSep barCells fun g => reached ER g 0)
instance records_persistent (K : GSem nD τ sig → ℕ) : BI.Persistent (records m K) := by unfold records; infer_instance
theorem record_inv (K : GSem nD τ sig → ℕ) {g : GSem nD τ sig} (hg : g ∈ (barCells ∪ talkCells : Finset (GSem nD τ sig))) :
    records m K ⊢ cellInv ER (Rd (tabOf m)) (K g) g := by
  unfold records
  exact sep_elim_left.trans (BI.bigSep_elim (Φ := fun g => (cellInv ER (Rd (tabOf m)) (K g) g : sProp 𝕄)) hg)
theorem record_bar (K : GSem nD τ sig → ℕ) (c : Dev nD) : records m K ⊢ reached ER (barCell c) 0 := by
  unfold records
  exact sep_elim_right.trans (BI.bigSep_elim (Φ := fun g => (reached ER g 0 : sProp 𝕄)) (Finset.mem_map_of_mem barEmb (Finset.mem_univ c)))

/-- A persistent fact, once for each channel. -/
theorem for_each {P : sProp 𝕄} [BI.Persistent P] (Φ : Ch → sProp (MT nD τ sig Unit (Elt F) ℕ UU ℕ)) (h : ∀ j, P ⊢ Φ j) : P ⊢ bigSep Finset.univ Φ :=
  (BI.bigSep_of_persistent Finset.univ P).trans (BI.bigSep_mono fun j _ => h j)

/-- The part of the launch that is device c's alone. -/
def mine (c : Dev nD) : sProp 𝕄 :=
  iprop(atPos ER (barCell c) 0 ∅ 0
    ∗ ((bigSep Finset.univ fun j : Ch => openTok ER (sendCell j c)) ∗ (bigSep Finset.univ fun j : Ch => openTok ER (recvCell j c)))
    ∗ (dutyTok ER (barCell (pv c)) 0 0 ∗ dutyTok ER (barCell (nx c)) 0 1 ∗ toks (F := F) c))
/-- The credits the launch gives it. -/
def credits (c : Dev nD) : sProp 𝕄 :=
  iprop(cred (tallyAt (barCell c) () 2) ∗ bigSep Finset.univ fun j : Ch => cred (tallyAt (recvCell j c) () N))
def Tk (c : Dev nD) : sProp 𝕄 := iprop((∃ K, records m K ∗ mine (F := F) c) ∗ credits (F := F) c)
/-- The same with the cells open. -/
def Xk (c : Dev nD) : sProp 𝕄 :=
  iprop((∃ K, meeting (tabOf m) K c) ∗ starting (F := F) c ∗ bigSep Finset.univ fun k : Fin 4 => semVal ((c : Thread nD τ), .dma (wS k)) 0)
def Yk (c : Dev nD) : sProp 𝕄 := semVal (barCell c) 0

theorem open_each (K : GSem nD τ sig → ℕ) (g : Ch → GSem nD τ sig) (hg : ∀ j, g j ∈ (barCells ∪ talkCells : Finset (GSem nD τ sig))) :
    iprop(records m K ∗ (bigSep Finset.univ fun j : Ch => (openTok ER (g j) : sProp 𝕄)) ∗ bigSep Finset.univ fun j : Ch => (semVal (g j) 0 : sProp 𝕄))
      ⊢ (|={Set.univ}=> iprop((bigSep Finset.univ fun j : Ch => (atPos ER (g j) 0 ∅ 0 : sProp 𝕄)) ∗ bigSep Finset.univ fun j : Ch => (reached ER (g j) 0 : sProp 𝕄))) := by
  iintro ⟨#HR, Ho, Hv⟩
  imod (Rounds.cells_open ER (Rd (tabOf m)) Finset.univ g (fun j => K (g j)) (fun _ _ => Set.mem_univ _)) $$ [Ho Hv] with H
  · isplitl [Ho]
    · iapply (each_in Finset.univ (fun j : Ch => cellInv ER (Rd (tabOf m)) (K (g j)) (g j)) (fun j : Ch => (openTok ER (g j) : sProp 𝕄)))
      isplitr
      · iapply (for_each (F := F) _ fun j => record_inv m K (hg j)); iexact HR
      iexact Ho
    iexact Hv
  imodintro
  iapply (each_out Finset.univ (fun j : Ch => (atPos ER (g j) 0 ∅ 0 : sProp 𝕄)) (fun j : Ch => (reached ER (g j) 0 : sProp 𝕄)))
  iexact H

theorem opening (c : Dev nD) : iprop(Tk m c ∗ Pipeline.ownSems0 osem c ∗ levAts L lv) ⊢ (|={Set.univ}=> Xk m c : sProp 𝕄) := by
  rw [osem_eq]
  unfold Tk Xk mine credits
  iintro ⟨⟨⟨%K, #HR, Hab, ⟨Hos, Hov⟩, Hd1, Hd2, Ht⟩, Hcb, Hcr⟩, ⟨Hsw, Hss, Hsv⟩, #Hlev⟩
  imod (open_each m K (fun j => sendCell j c) fun j => send_mem j c) $$ [Hos Hss] with ⟨Hps, #Hrs⟩
  · isplitr; · iexact HR
    isplitl [Hos]; · iexact Hos
    iexact Hss
  imod (open_each m K (fun j => recvCell j c) fun j => recv_mem j c) $$ [Hov Hsv] with ⟨Hpv, #Hrv⟩
  · isplitr; · iexact HR
    isplitl [Hov]; · iexact Hov
    iexact Hsv
  imodintro
  isplitr [Hab Hd1 Hd2 Ht Hcb Hcr Hps Hpv Hsw]
  · iexists K
    unfold meeting invs
    isplitr
    · iapply (each_in Finset.univ (fun j : Ch => cellInv ER (Rd (tabOf m)) (K (sendCell j c)) (sendCell j c)) _)
      isplitr
      · iapply (for_each (F := F) _ fun j => record_inv m K (send_mem j c)); iexact HR
      iapply (each_in Finset.univ (fun j : Ch => cellInv ER (Rd (tabOf m)) (K (recvCell j c)) (recvCell j c)) _)
      isplitr
      · iapply (for_each (F := F) _ fun j => record_inv m K (recv_mem j c)); iexact HR
      iapply (each_in Finset.univ (fun j : Ch => cellInv ER (Rd (tabOf m)) (K (recvCell j (dst (dir j) c))) (recvCell j (dst (dir j) c))) _)
      isplitr
      · iapply (for_each (F := F) _ fun j => record_inv m K (recv_mem j (dst (dir j) c))); iexact HR
      iexact Hrs
    isplitr; · iapply (record_inv m K (bar_mem c)); iexact HR
    isplitr; · iapply (record_inv m K (bar_mem (pv c))); iexact HR
    isplitr; · iapply (record_inv m K (bar_mem (nx c))); iexact HR
    isplitr; · iapply (record_bar m K (pv c)); iexact HR
    isplitr; · iapply (record_bar m K (nx c)); iexact HR
    isplitr; · iexact Hlev
    iexact Hrv
  isplitr [Hsw]
  · unfold starting
    isplitl [Hd1]; · iexact Hd1
    isplitl [Hd2]; · iexact Hd2
    isplitl [Hcb]; · iexact Hcb
    isplitl [Hab]; · iexact Hab
    isplitl [Ht]; · iexact Ht
    isplitl [Hpv Hcr]
    · unfold recvs
      iapply (each_in Finset.univ (fun j : Ch => (atPos ER (recvCell j c) 0 ∅ 0 : sProp 𝕄)) (fun j : Ch => (cred (tallyAt (recvCell j c) () N) : sProp 𝕄)))
      isplitl [Hpv]; · iexact Hpv
      iexact Hcr
    unfold sends; iexact Hps
  iexact Hsw

/-! ## The buffers -/

/-- The buffers no staging holds, and those of them the windows do not move. -/
def bufs : Finset (DevRef τ sig) := (StableHlo.tcRefs τ sig).filter fun b => ¬ b.isScoped
def offs : Finset (DevRef τ sig) := bufs \ Pipeline.arrRefs (τ := τ) (pcfgs (F := F) 0).spec
/-- The one the body addresses itself. -/
def hbm : Finset (DevRef τ sig) := {Proc.devRef .tc main_arg3}

theorem arr_sub : Pipeline.arrRefs (τ := τ) (pcfgs (F := F) 0).spec ⊆ bufs := by
  show Pipeline.arrRefs (τ := τ) spec0 ⊆ bufs
  decide
theorem hbm_sub : hbm ⊆ offs (F := F) := by
  show hbm ⊆ bufs \ Pipeline.arrRefs (τ := τ) spec0
  decide
theorem res_arr : Proc.devRef .tc main_v2 ∉ offs (F := F) := by
  show Proc.devRef .tc main_v2 ∉ bufs \ Pipeline.arrRefs (τ := τ) spec0
  decide

theorem hbm_eq (c : Dev nD) (W : Valuation τ sig (Elt F)) : (StableHlo.held (c : Thread nD τ) hbm W : sProp 𝕄)
    = ((Memref.whole main_arg3).view.loc (c : Thread nD τ) ↦{fullShare} W main_arg3) := by
  unfold StableHlo.held hbm
  rw [BI.bigSep_singleton]

theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-! ## The region -/

theorem level_cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · have hb : ∀ d : Dev nD, i ∈ L (barCell d) ∧ (0 : ℕ) < lv (barCell d) i := fun d =>
      ⟨by rw [L_tc]; exact Finset.mem_singleton_self _, by rw [lv_bar]; decide⟩
    unfold O₀ at h
    rw [Pi.add_apply, Finsupp.add_apply, Pi.add_apply, Finsupp.add_apply] at h
    have hcases : 0 < owed c 0 g i ∨ 0 < (tallyAt (barCell (nx c)) () 1 : CellTallies nD τ sig Unit) g i
        ∨ 0 < (tallyAt (barCell (pv c)) () 1 : CellTallies nD τ sig Unit) g i := by omega
    rcases hcases with h | h | h
    · obtain ⟨j, -, rfl⟩ := owed_pos h
      exact ⟨by rw [L_tc]; exact Finset.mem_singleton_self _, by rw [lv_recv]; omega⟩
    · rw [tallyAt_apply] at h
      split at h
      · next hg => rw [hg.1]; exact hb _
      · exact absurd h (Nat.lt_irrefl 0)
    · rw [tallyAt_apply] at h
      split at h
      · next hg => rw [hg.1]; exact hb _
      · exact absurd h (Nat.lt_irrefl 0)
  · exact absurd h (Nat.lt_irrefl 0)

theorem entering (c : Dev nD) : iprop(Pipeline.scopedRest (Pipeline.pin (pcfgs (F := F)) adm 0).spec c ∗ (∃ r, prngReg c r)
      ∗ StableHlo.held (c.tc : Thread nD τ) hbm (W₁ m c) ∗ Xk m c)
    ⊢ (pdats m 0 c).Φ 0 := by
  rw [phi_zero, hbm_eq]
  unfold Φ₀ Xk arg3At scratches
  iintro ⟨Hs, Hp, Hw, HK, Hst, Hsw⟩
  isplitl [HK]; · iexact HK
  isplitl [Hst]; · iexact Hst
  isplitl [Hsw]; · iexact Hsw
  isplitl [Hw]; · iexact Hw
  isplitl [Hs]; · iexact Hs
  iexact Hp

theorem leaving (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) hbm (W₂ m c) ∗ Pipeline.ownSems0 osem c ∗ Yk c) := by
  rw [phi_last, hbm_eq, W₂_of_ne m c _ (by decide)]
  unfold Φ₁ Yk arg3At scratches
  iintro ⟨Hb, Hos, Hw, Hs, Hp⟩
  isplitl [Hs]; · iexact Hs
  isplitl [Hp]; · iexact Hp
  isplitl [Hw]; · iexact Hw
  isplitl [Hos]; · iexact Hos
  iexact Hb

theorem arr_first (c : Dev nD) (w : Fin 4) : (pdats (F := F) m 0 c).arrAt w 0 = W₁ m c (Proc.devRef .tc (Pipeline.arrRef spec0 w)) := rfl
theorem arr_last (c : Dev nD) (w : Fin 4) : (pdats (F := F) m 0 c).arrAt w (Pipeline.pin (pcfgs (F := F)) adm 0).N
    = W₂ m c (Proc.devRef .tc (Pipeline.arrRef spec0 w)) := by
  match w with
  | 0 => exact ((dat0 m c).arrAt_in 0 rfl _).trans (W₂_of_ne m c (Proc.devRef .tc main_arg0) (by decide)).symm
  | 1 => exact ((dat0 m c).arrAt_in 1 rfl _).trans (W₂_of_ne m c (Proc.devRef .tc main_arg2) (by decide)).symm
  | 2 => exact ((dat0 m c).arrAt_in 2 rfl _).trans (W₂_of_ne m c (Proc.devRef .tc main_v1) (by decide)).symm
  | 3 => exact ((dat0 m c).arrAt_eq_of_after_last 3 t0_0 (by decide +kernel) (resOf m c) fun j => rfl).trans (W₂_res m c).symm

theorem share_full (c : Dev nD) (w : Fin 4) : (pdats (F := F) m 0 c).share w = fullShare := by
  match w with
  | 0 => rfl
  | 1 => rfl
  | 2 => rfl
  | 3 => rfl
theorem level_stage (c : Dev nD) (w : Fin 4) (s : Fin ((Pipeline.pin (pcfgs (F := F)) adm 0).win w).nbuf) :
    (lv ((c.tc : Thread nD τ), .dma (((Pipeline.pin (pcfgs (F := F)) adm 0).win w).sem s)) () : ℕ) ≤ 0 := by
  match w with
  | 0 => exact le_of_eq rfl
  | 1 => exact le_of_eq rfl
  | 2 => exact le_of_eq rfl
  | 3 => exact le_of_eq rfl

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    hbm offs hbm_sub launch0.toP rfl (fun c => (body0 m c).loose)
    (fun _ => 0) O₀ (fun c => (owed_zero m c).trans (zero_add _).symm) (owed_last m) (fun _ => rfl) (share_full m)
    (W₁ m) (W₂ m) (fun c b hb => W₂_of_ne m c b fun h => res_arr (F := F) (h ▸ (Finset.mem_sdiff.mp hb).1))
    (Tk m) Yk (Xk m) Yk (opening m) (entering m) (leaving m)
    (fun c => by iintro H; imodintro; iexact H)
    (fun _ => 0)
    ⟨fun c w s => by rw [L_tc]; exact Finset.mem_singleton_self _,
      fun c w s => level_stage c w s,
      fun c t g i h => level_cut m c t g i h⟩
    (fun _ => iprop(emp))
    (arr_first m) (arr_last m)

end Cert.KernelIdeal.Hand
-- ==== Proof.Funds.lean ====
/- What the launch deals: the tokens of every duty, and the credits against what every device owes. -/
module

public import proofs.«01_k».proof.Proof.Region
public import Idealize.ShloMosaic.Harness.Basic

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

open Cert.KernelIdeal.Gen
open Idealize.ShloMosaic.Smoke (bigSep_pair bigSep_unpair)

variable (m : (ℓ : Loc nD τ sig) → Buf (Elt F) ℓ)

/-! ## The tokens: one for each duty of each cell -/

/-- The cell, round and duty a token names: two on each barrier, one on each cell of the talk. -/
def tokOf (ck : Dev nD × (Fin 2 ⊕ (Ch ⊕ Ch))) : GSem nD τ sig × ℕ × Fin 2 :=
  match ck.2 with
  | .inl k => (barCell ck.1, 0, k)
  | .inr s => (talkEmb (ck.1, s), 0, 0)
theorem tokOf_inj : Function.Injective tokOf := by
  rintro ⟨c, k⟩ ⟨c', k'⟩ h
  have hc : c = c' := by
    have h1 := congrArg (fun t : GSem nD τ sig × ℕ × Fin 2 => t.1.1.1) h
    cases k <;> cases k' <;> exact h1
  subst hc
  have h2 := congrArg (fun t : GSem nD τ sig × ℕ × Fin 2 => t.1.2) h
  have h3 := congrArg (fun t : GSem nD τ sig × ℕ × Fin 2 => t.2.2) h
  cases k with
  | inl k => cases k' with
    | inl k' => exact congrArg (fun x => (c, Sum.inl x)) h3
    | inr s' =>
      have h2 : (SemLoc.reg barS : SemLoc sig) = .dma (talkS s') := h2
      exact absurd h2 (by simp)
  | inr s => cases k' with
    | inl k' =>
      have h2 : (SemLoc.dma (talkS s) : SemLoc sig) = .reg barS := h2
      exact absurd h2 (by simp)
    | inr s' => exact congrArg (fun x => (c, Sum.inr x)) (talkS_inj (SemLoc.dma.inj h2))
def allToks : Finset (GSem nD τ sig × ℕ × Fin 2) := Finset.univ.map ⟨tokOf, tokOf_inj⟩

theorem allToks_eq : bigSep allToks (fun x => (dutyTok ER x.1 x.2.1 x.2.2 : sProp 𝕄))
    = bigSep Finset.univ fun c : Dev nD => iprop((dutyTok ER (barCell c) 0 0 ∗ dutyTok ER (barCell c) 0 1)
        ∗ ((bigSep Finset.univ fun j : Ch => dutyTok ER (sendCell j c) 0 0) ∗ bigSep Finset.univ fun j : Ch => dutyTok ER (recvCell j c) 0 0)) := by
  unfold allToks
  rw [BI.bigSep_map, BI.bigSep_univ_prod]
  refine BI.bigSep_congr fun c _ => ?_
  rw [BI.bigSep_univ_sum, BI.bigSep_fin_two, BI.bigSep_univ_sum]
  rfl

def ringPv : Dev nD ≃ Dev nD := ⟨pv, nx, nx_pv, pv_nx⟩
def ringNx : Dev nD ≃ Dev nD := ⟨nx, pv, pv_nx, nx_pv⟩
/-- Each device beside the device channel j sends to. -/
def ringDst : Dev nD × Ch ≃ Dev nD × Ch where
  toFun x := (dst (dir x.2) x.1, x.2)
  invFun x := (org (dir x.2) x.1, x.2)
  left_inv x := Prod.ext (org_dst (dir x.2) x.1) rfl
  right_inv x := Prod.ext (dst_org (dir x.2) x.1) rfl

/-- Every token goes to the device that does the duty. -/
theorem toks_dealt : bigSep allToks (fun x => (dutyTok ER x.1 x.2.1 x.2.2 : sProp 𝕄))
    ⊢ bigSep Finset.univ fun c : Dev nD => iprop(dutyTok ER (barCell (pv c)) 0 0 ∗ dutyTok ER (barCell (nx c)) 0 1 ∗ toks (F := F) c) := by
  rw [allToks_eq]
  have hr : (bigSep Finset.univ fun c : Dev nD => bigSep Finset.univ fun j : Ch => (dutyTok ER (recvCell j c) 0 0 : sProp 𝕄))
      = bigSep Finset.univ fun c : Dev nD => bigSep Finset.univ fun j : Ch => (dutyTok ER (recvCell j (dst (dir j) c)) 0 0 : sProp 𝕄) := by
    rw [← BI.bigSep_univ_prod fun x : Dev nD × Ch => (dutyTok ER (recvCell x.2 x.1) 0 0 : sProp 𝕄), BI.bigSep_univ_equiv ringDst, BI.bigSep_univ_prod]
    rfl
  iintro H
  ihave H1 := bigSep_unpair $$ H; icases H1 with ⟨Hb, Ht⟩
  ihave H2 := bigSep_unpair $$ Hb; icases H2 with ⟨Hb0, Hb1⟩
  ihave H3 := bigSep_unpair $$ Ht; icases H3 with ⟨Hs, Hr⟩
  iapply bigSep_pair
  isplitl [Hb0]
  · iapply (Entails.of_eq (BI.bigSep_univ_equiv ringPv fun c : Dev nD => (dutyTok ER (barCell c) 0 0 : sProp 𝕄))); iexact Hb0
  iapply bigSep_pair
  isplitl [Hb1]
  · iapply (Entails.of_eq (BI.bigSep_univ_equiv ringNx fun c : Dev nD => (dutyTok ER (barCell c) 0 1 : sProp 𝕄))); iexact Hb1
  unfold toks
  iapply (Entails.of_eq (BI.bigSep_congr (s := Finset.univ) fun (c : Dev nD) _ => (BI.bigSep_sep (s := Finset.univ) (fun j : Ch => (dutyTok ER (sendCell j c) 0 0 : sProp 𝕄))
    (fun j : Ch => (dutyTok ER (recvCell j (dst (dir j) c)) 0 0 : sProp 𝕄))).symm))
  iapply bigSep_pair
  isplitl [Hs]; · iexact Hs
  iapply (Entails.of_eq hr); iexact Hr

/-! ## The credits -/

theorem owes_bar (d c : Dev nD) : O₀ d (barCell c) () = (if d = pv c then 1 else 0) + if d = nx c then 1 else 0 := by
  have h0 : owed d 0 (barCell c) () = 0 := by
    by_contra h
    obtain ⟨j, -, hj⟩ := owed_pos (Nat.pos_of_ne_zero h)
    have h2 : (SemLoc.reg barS : SemLoc sig) = .dma (recvS j) := congrArg (fun g : GSem nD τ sig => g.2) hj
    exact absurd h2 (by simp)
  have hcell : ∀ a b : Dev nD, barCell a = barCell b ↔ a = b := fun a b =>
    ⟨fun h => congrArg (fun g : GSem nD τ sig => g.1.1) h, fun h => h ▸ rfl⟩
  have e1 : c = nx d ↔ d = pv c := ⟨fun h => by rw [h, pv_nx], fun h => by rw [h, nx_pv]⟩
  have e2 : c = pv d ↔ d = nx c := ⟨fun h => by rw [h, nx_pv], fun h => by rw [h, pv_nx]⟩
  unfold O₀
  rw [Pi.add_apply, Finsupp.add_apply, Pi.add_apply, Finsupp.add_apply, h0, tallyAt_apply, tallyAt_apply]
  simp only [hcell, e1, e2, and_true, zero_add]

theorem owes_recv (d : Dev nD) (j : Ch) (c : Dev nD) : O₀ d (recvCell j c) () = if d = org (dir j) c then N else 0 := by
  have hb : ∀ a : Dev nD, recvCell j c ≠ barCell a := fun a h => by
    have h2 : (SemLoc.dma (recvS j) : SemLoc sig) = .reg barS := congrArg (fun g : GSem nD τ sig => g.2) h
    exact absurd h2 (by simp)
  have hcell : ∀ (i : Ch) (a : Dev nD), recvCell j c = recvCell i a ↔ j = i ∧ c = a := fun i a =>
    ⟨fun h => ⟨by
        have h2 : (SemLoc.dma (talkS (.inr j)) : SemLoc sig) = .dma (talkS (.inr i)) := congrArg (fun g : GSem nD τ sig => g.2) h
        exact Sum.inr.inj (talkS_inj (SemLoc.dma.inj h2)), congrArg (fun g : GSem nD τ sig => g.1.1) h⟩,
      fun h => by rw [h.1, h.2]⟩
  have e : c = dst (dir j) d ↔ d = org (dir j) c := ⟨fun h => by rw [h, org_dst], fun h => by rw [h, dst_org]⟩
  unfold O₀
  rw [Pi.add_apply, Finsupp.add_apply, Pi.add_apply, Finsupp.add_apply, tallyAt_apply, tallyAt_apply,
    if_neg fun h => hb _ h.1, if_neg fun h => hb _ h.1]
  unfold owed
  rw [Finset.sum_apply, Finsupp.finset_sum_apply, after_zero, Finset.sum_eq_single j]
  · rw [tallyAt_apply]; simp only [hcell, e, true_and, and_true, add_zero]
  · intro i _ hi
    rw [tallyAt_apply, if_neg fun h => hi ((hcell i _).mp h.1).1.symm]
  · intro h; exact absurd (Finset.mem_univ j) h

theorem credit_bar (c : Dev nD) : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib,
    Finset.sum_ite_eq' Finset.univ (pv c) fun _ => 1, Finset.sum_ite_eq' Finset.univ (nx c) fun _ => 1, if_pos (Finset.mem_univ _), if_pos (Finset.mem_univ _)]
theorem credit_recv (j : Ch) (c : Dev nD) : tallyOn (recvCell j c) (launchCredit (Pipeline.owing O₀) 0 (recvCell j c)) = (tallyAt (recvCell j c) () N : CellTallies nD τ sig Unit) := by
  unfold tallyAt; refine congrArg _ (Finsupp.ext fun u => ?_); cases u
  rw [Pipeline.launchCredit_owing, Finsupp.single_eq_same, Finset.sum_congr rfl fun d _ => owes_recv d j c,
    Finset.sum_ite_eq' Finset.univ (org (dir j) c) fun _ => N, if_pos (Finset.mem_univ _)]

def recvEmb : Ch ↪ SemLoc sig := ⟨fun j => .dma (talkS (.inr j)), fun _ _ h => Sum.inr.inj (talkS_inj (SemLoc.dma.inj h))⟩
theorem credits_dealt (c : Dev nD) : (Pipeline.launchCred O₀ c : sProp 𝕄) ⊢ credits (F := F) c := by
  unfold Pipeline.launchCred credits
  rw [BI.bigSep_univ_at _ (SemLoc.reg barS), credit_bar]
  refine sep_mono_right ?_
  have hs : Finset.univ.map recvEmb ⊆ Finset.univ.erase (SemLoc.reg barS : SemLoc sig) := by
    intro x hx
    obtain ⟨j, -, rfl⟩ := Finset.mem_map.mp hx
    exact Finset.mem_erase.mpr ⟨by unfold recvEmb; simp, Finset.mem_univ _⟩
  refine (BI.bigSep_subset hs).trans ?_
  rw [BI.bigSep_map]
  exact BI.bigSep_mono fun j _ => by rw [← credit_recv]; exact BI.Entails.refl _

/-! ## The launch element -/

def u₀ : UU :=
  (initOf (Pipeline.cells (Pipeline.pin (pcfgs (F := F)) adm) cellOf_inj) (Pipeline.launchToks (Pipeline.pin (pcfgs (F := F)) adm) cellOf_inj),
    (launchOf barCells talkCells allToks, 1))

/-- The protocol's element, held by device 0 until every device has a share. -/
def seed (c : Dev nD) : sProp 𝕄 := if c = 0 then BI.own (ER (launchOf barCells talkCells allToks)) else iprop(emp)
theorem seed_all : bigSep Finset.univ (seed (F := F)) = BI.own (ER (launchOf barCells talkCells allToks)) := by
  rw [BI.bigSep_univ_at _ (0 : Dev nD), BI.bigSep_congr (Φ := seed (F := F)) (s := Finset.univ.erase (0 : Dev nD)) (Ψ := fun _ => (BI.emp : sProp 𝕄))
    (fun c hc => show seed (F := F) c = BI.emp from if_neg (Finset.ne_of_mem_erase hc)), BI.bigSep_emp_const]
  rw [show seed (F := F) 0 = BI.own (ER (launchOf barCells talkCells allToks)) from if_pos rfl]
  exact BI.equiv_iff.mp sep_emp

theorem element_split : (ownU (u₀ (F := F)) : sProp 𝕄)
    ⊢ (|={Set.univ}=> iprop(BI.own (EP (initOf (Pipeline.cells (Pipeline.pin (pcfgs (F := F)) adm) cellOf_inj) (Pipeline.launchToks (Pipeline.pin (pcfgs (F := F)) adm) cellOf_inj)))
        ∗ bigSep Finset.univ (seed (F := F))) : sProp 𝕄) := by
  rw [seed_all]
  unfold u₀
  iintro Hu
  ihave H := (ownU_pair _ _) $$ Hu
  icases H with ⟨HP, HX⟩
  ihave H' := (own_pair_emb _ _ _) $$ HX
  icases H' with ⟨HY, -⟩
  imodintro
  isplitl [HP]; · iexact HP
  iexact HY

end Cert.KernelIdeal.Hand
-- ==== Proof.Run.lean ====
/- The launch and the run: every device ends with its result, its arguments and every counter at zero. -/
module

public import proofs.«01_k».proof.Proof.Funds

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

open Cert.KernelIdeal.Gen
open Idealize.ShloMosaic.Smoke (bigSep_pair bigSep_unpair)

variable (m : (ℓ : Loc nD τ sig) → Buf (Elt F) ℓ) (ρ : Dev nD → PrngReg)

/-- What rides beside the buffers to the region: the talk's tokens, and the core's debt. -/
def R (c : Dev nD) : sProp 𝕄 := iprop(Tk m c ∗ (∃ r, prngReg c r) ∗ ∃ W, owes (c : Thread nD τ) (O₀ c) W)

theorem host_sub : ∀ op ∈ (hostOps0 (F := F)), op.bufs ⊆ bufs := by
  intro op hop
  simp only [hostOps0, List.mem_singleton] at hop
  subst hop
  show ({Proc.devRef .tc main_arg2, Proc.devRef .tc main_v1} : Finset (DevRef τ sig)) ⊆ bufs
  decide
theorem host_fresh : ∀ op ∈ (hostOps0 (F := F)), op.fresh = ∅ := List.forall_iff_forall_mem.mp hostOps0_fresh

def host : Pipeline.HostSeg (Name := ℕ) (U := UU) (pcfgs (F := F)) defs₀ 𝒱₀ L lv :=
  Pipeline.HostSeg.ofOps _ _ _ _ _ bufs hostOps0 host_sub host_fresh (fun c b => m (c, b)) (R m)
def segs : List (Pipeline.Seg (pcfgs (F := F)) adm (pdats m) () defs₀ 𝒱₀ L lv) := [.host (host m), .region (reg m)]

theorem region_before (c : Dev nD) : iprop(StableHlo.held (c : Thread nD τ) bufs (W₁ m c) ∗ R m c) ⊢ (reg m).pre c := by
  show _ ⊢ iprop(StableHlo.held (c.tc : Thread nD τ) (Pipeline.arrRefs (τ := τ) (pcfgs (F := F) 0).spec) (W₁ m c) ∗ (∃ r, prngReg c r)
    ∗ (StableHlo.held (c.tc : Thread nD τ) (offs (F := F)) (W₁ m c) ∗ emp) ∗ Tk m c ∗ ∃ Wd, owes (c : Thread nD τ) (0 + O₀ c) Wd)
  rw [StableHlo.held_sub_split (c : Thread nD τ) (arr_sub (F := F)), zero_add]
  unfold R
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem region_after (c : Dev nD) : (reg m).post c
    ⊢ iprop((StableHlo.held (c : Thread nD τ) bufs (W₂ m c) ∗ semVal (barCell c) 0) ∗ ∃ W, owes (c : Thread nD τ) (0 : CellTallies nD τ sig Unit) W) := by
  show iprop(StableHlo.held (c.tc : Thread nD τ) (Pipeline.arrRefs (τ := τ) (pcfgs (F := F) 0).spec) (W₂ m c) ∗ (∃ r, prngReg c r)
    ∗ (StableHlo.held (c.tc : Thread nD τ) (offs (F := F)) (W₂ m c) ∗ emp) ∗ Yk c ∗ ∃ Wd, owes (c : Thread nD τ) (0 : CellTallies nD τ sig Unit) Wd) ⊢ _
  rw [StableHlo.held_sub_split (c : Thread nD τ) (arr_sub (F := F)) (W₂ m c)]
  unfold Yk
  iintro ⟨Ha, -, ⟨Ho, -⟩, Hb, HO⟩
  isplitr [HO]
  · isplitl [Ha Ho]
    · isplitl [Ha]; · iexact Ha
      iexact Ho
    iexact Hb
  iexact HO

/-! ## The launch -/

abbrev T₀ (c : Dev nD) : sProp 𝕄 := iprop(StableHlo.held (c : Thread nD τ) bufs (fun b => m (c, b)) ∗ R m c)
abbrev Tₙ (c : Dev nD) : sProp 𝕄 := iprop(StableHlo.held (c : Thread nD τ) bufs (W₂ m c) ∗ semVal (barCell c) 0)

theorem counters_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- A device's share of the launch, apart from the protocol's ghost state. -/
def share (c : Dev nD) : sProp 𝕄 :=
  iprop(StableHlo.held (c : Thread nD τ) bufs (fun b => m (c, b)) ∗ credits (F := F) c ∗ owes (c : Thread nD τ) (O₀ c) ∅ ∗ ∃ r, prngReg c r)

theorem T₀_from (K : GSem nD τ sig → ℕ) (c : Dev nD) : iprop(records m K ∗ (mine (F := F) c ∗ share m c)) ⊢ T₀ m c := by
  unfold share T₀ R Tk
  iintro ⟨#HR, Hl, Hh, Hc, HO, Hp⟩
  isplitl [Hh]; · iexact Hh
  isplitl [Hl Hc]
  · isplitl [Hl]
    · iexists K
      isplitr; · iexact HR
      iexact Hl
    iexact Hc
  isplitl [Hp]; · iexact Hp
  iexists ∅; iexact HO

theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ seed c)) ∗ levAts L lv)
      ⊢ (|={Set.univ}=> bigSep Finset.univ (T₀ m) : sProp 𝕄) := by
  have each (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ seed c)
      ⊢ (iprop(share m c ∗ (semVal (barCell c) 0 ∗ seed c)) : sProp 𝕄) := by
    rw [show unscopedBufs c (fun b => m ((c : Thread nD τ).loc b)) = StableHlo.held (c : Thread nD τ) bufs (fun b => m (c, b)) from bufs_held c fun b => m (c, b),
      counters_eq]
    unfold share
    iintro ⟨Hh, Hv, HO, Hc, Hp, HG⟩
    isplitl [Hh Hc Hp HO]
    · isplitl [Hh]; · iexact Hh
      isplitl [Hc]; · iapply (credits_dealt (F := F) c); iexact Hc
      isplitl [HO]; · iexact HO
      iexists (ρ c); iexact Hp
    isplitl [Hv]; · iexact Hv
    iexact HG
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hop : bigSep talkCells (fun g => (openTok ER g : sProp 𝕄))
      ⊢ bigSep Finset.univ (fun c : Dev nD => iprop((bigSep Finset.univ fun j : Ch => openTok ER (sendCell j c)) ∗ bigSep Finset.univ fun j : Ch => openTok ER (recvCell j c))) :=
    Entails.of_eq (by
      rw [BI.bigSep_map, BI.bigSep_univ_prod]
      exact BI.bigSep_congr fun c _ => BI.bigSep_univ_sum _)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ seed c))
      ⊢ (bigSep Finset.univ fun c : Dev nD => iprop(share m c ∗ (semVal (barCell c) 0 ∗ seed c)) : sProp 𝕄) from BI.bigSep_mono fun c _ => each c) $$ H
  ihave H2 := bigSep_unpair $$ H'; icases H2 with ⟨HB, H3⟩
  ihave H4 := bigSep_unpair $$ H3; icases H4 with ⟨Hv, HG⟩
  ihave Hu := (show bigSep Finset.univ (seed (F := F)) ⊢ BI.own (ER (launchOf barCells talkCells allToks)) from Entails.of_eq (seed_all (F := F))) $$ HG
  imod (Rounds.fund_launch ER (Rd (tabOf m)) cells_apart (fun g _ h => h) allToks) $$ [Hv Hu] with ⟨%κ, -, #Hinv, #Hr, Hat, Hopen, Htok⟩
  · isplitl [Hv]
    · iapply hv $$ Hv
    iexact Hu
  imodintro
  iapply (BI.bigSep_with_persistent (R := records m κ) (Φ := fun c => iprop(mine (F := F) c ∗ share m c)) fun c _ => T₀_from m κ c)
  isplitr
  · unfold records
    isplitr; · iexact Hinv
    iexact Hr
  iapply bigSep_pair
  isplitr [HB]
  · unfold mine
    iapply bigSep_pair; isplitl [Hat]; · iapply hat $$ Hat
    iapply bigSep_pair; isplitl [Hopen]; · iapply hop $$ Hopen
    iapply (toks_dealt (F := F)); iexact Htok
  iexact HB

theorem bar_only : ∀ sm : SemLoc sig, sm.isScoped .tc = false → sm = .reg barS := by decide +kernel

/-- The buffers read at the end. -/
theorem bufs_read (c : Dev nD) (W : Valuation τ sig (Elt F)) : (StableHlo.held (c : Thread nD τ) bufs W : sProp 𝕄)
    ⊢ iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_arg3 ↦{fullShare} W main_arg3)
      ∗ ((c : Thread nD τ).loc main_v2 ↦{fullShare} W main_v2)) := by
  unfold StableHlo.held
  refine (BI.bigSep_subset (t := {Proc.devRef .tc main_arg0, Proc.devRef .tc main_arg1, Proc.devRef .tc main_arg2, Proc.devRef .tc main_arg3, Proc.devRef .tc main_v2})
    (by decide)).trans ?_
  rw [BI.bigSep_insert (by decide), BI.bigSep_insert (by decide), BI.bigSep_insert (by decide), BI.bigSep_insert (by decide), BI.bigSep_singleton]
  exact BI.Entails.refl _

theorem W₂_arg0 (c : Dev nD) : W₂ m c main_arg0 = m ((c : Thread nD τ).loc main_arg0) := (W₂_of_ne m c _ (by decide)).trans (V_main_arg0 m c)
theorem W₂_arg1 (c : Dev nD) : W₂ m c main_arg1 = m ((c : Thread nD τ).loc main_arg1) := (W₂_of_ne m c _ (by decide)).trans (V_main_arg1 m c)
theorem W₂_arg2 (c : Dev nD) : W₂ m c main_arg2 = m ((c : Thread nD τ).loc main_arg2) := (W₂_of_ne m c _ (by decide)).trans (V_main_arg2 m c)
theorem W₂_arg3 (c : Dev nD) : W₂ m c main_arg3 = m ((c : Thread nD τ).loc main_arg3) := (W₂_of_ne m c _ (by decide)).trans (V_main_arg3 m c)

set_option backward.isDefEq.respectTransparency.types false in
/-- Every run of the four devices ends, with the arguments as they were, `resOf m c` on device c, and every counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ r.2.mem ((c : Thread nD τ).loc main_v2) = resOf m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (reg m) rfl c]; exact BI.Entails.refl _)
    (by simp only [segs, Pipeline.Seg.pipes_host, Pipeline.Seg.pipes_region, Pipeline.Seg.pipes_nil]; decide)
    (O₀ := O₀) (hL := L_of_ne) (G := seed) (u₀ := u₀)
    (hu₀ := element_split)
    (T₀ := T₀ m) (Tₙ := Tₙ m)
    (hch := ⟨fun c => .rfl, fun c => region_before m c, fun c => region_after m c⟩)
    (hinit := launch m ρ)
    (QY := fun c s => (s.mem ((c : Thread nD τ).loc main_arg0) = W₂ m c main_arg0 ∧ s.mem ((c : Thread nD τ).loc main_arg1) = W₂ m c main_arg1
        ∧ s.mem ((c : Thread nD τ).loc main_arg2) = W₂ m c main_arg2 ∧ s.mem ((c : Thread nD τ).loc main_arg3) = W₂ m c main_arg3
        ∧ s.mem ((c : Thread nD τ).loc main_v2) = W₂ m c main_v2) ∧ s.sem (barCell c) = 0)
    (hfin := fun c s' => by
      dsimp only [Tₙ]
      iintro ⟨⟨Hh, Hb⟩, HSI⟩
      ihave Hr := (bufs_read (F := F) c (W₂ m c)) $$ Hh
      icases Hr with ⟨H0, H1, H2, H3, H4⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => by
        obtain ⟨⟨h0, h1, h2, h3, h4⟩, -⟩ := h c
        exact ⟨⟨h0.trans (W₂_arg0 m c), h1.trans (W₂_arg1 m c), h2.trans (W₂_arg2 m c), h3.trans (W₂_arg3 m c)⟩, h4.trans (W₂_res m c)⟩,
      sem_eq_zero hs fun c sm hsm => by
        obtain rfl := bar_only sm hsm
        exact (h c).2⟩)

end Cert.KernelIdeal.Hand
-- ==== Proof.Tally.lean ====
/- The slots of the tokens as natural numbers, and the sums that count them. -/
module

public import Idealize.ShloMosaic.Lib.StableHlo.Predicate
public import Idealize.ShloMosaic.Lib.Routing.Count
public import Idealize.ShloMosaic.Lib.IdealHost

@[expose] public section

set_option maxRecDepth 16384

noncomputable section

namespace Cert.KernelIdeal.Hand

open Idealize.ShloMosaic
open scoped BigOperators
/-- A bit read as a number: 1 when set, 0 when clear. -/
theorem bit_num (b : BitVec 1) : (FloatOps.sitofp .f32 (b.setWidth 32) : Ideal .f32) = if b = 1#1 then 1 else 0 := by
  rcases BitVec.eq_zero_or_eq_one b with rfl | rfl
  · show (((0#32 : BitVec 32).toInt : ℝ) : EReal) = _
    simp
  · show (((1#32 : BitVec 32).toInt : ℝ) : EReal) = _
    simp

/-- The comparison of two words as a number. -/
theorem eq_num (a b : BitVec 32) : (FloatOps.sitofp .f32 ((IntOp.cmpi .eq a b).setWidth 32) : Ideal .f32) = if a = b then 1 else 0 := by
  rw [bit_num]
  exact if_congr StableHlo.Predicate.cmpi_eq_iff rfl rfl

/-! ### Counting the tokens of an expert -/

/-- How many of the first n tokens take route e. -/
def tally (w : ℕ → BitVec 32) (e : BitVec 32) (n : ℕ) : ℕ := Nat.count (fun j => w j = e) n

/-- How many tokens before the i-th take its route. -/
def before (w : ℕ → BitVec 32) (i : ℕ) : ℕ := tally w (w i) i

/-- The slot of the i-th token: the first 51 of an expert have one among its 64; the others have none, which 3000 says. -/
def slotN (w : ℕ → BitVec 32) (i : ℕ) : ℕ := if before w i < 51 then 64 * (w i).toNat + before w i else 3000

theorem tally_self (w : ℕ → BitVec 32) (i : ℕ) : tally w (w i) (i + 1) = before w i + 1 := by
  unfold before tally
  rw [Nat.count_succ, if_pos rfl]

/-- A later token of the same route comes after it. -/
theorem before_lt (w : ℕ → BitVec 32) {i j : ℕ} (h : i < j) (e : w i = w j) : before w i < before w j := by
  have h1 := tally_self w i
  have h2 : tally w (w i) (i + 1) ≤ tally w (w i) j := Nat.count_monotone _ h
  have h3 : before w j = tally w (w i) j := by unfold before; rw [e]
  omega

/-- A slot of the table has one token at most. -/
theorem slot_inj (w : ℕ → BitVec 32) {i j : ℕ} (hi : slotN w i < 2048) (e : slotN w i = slotN w j) : i = j := by
  unfold slotN at hi e
  split at hi <;> rename_i h1
  · rw [if_pos h1] at e
    split at e <;> rename_i h2
    · have hw : w i = w j := BitVec.eq_of_toNat_eq (by omega)
      have hb : before w i = before w j := by rw [hw] at e; omega
      rcases Nat.lt_trichotomy i j with h | h | h
      · have := before_lt w h hw; omega
      · exact h
      · have := before_lt w h hw.symm; omega
    · omega
  · omega

/-- The slot of a kept token lies in its expert's block. -/
theorem slot_kept (w : ℕ → BitVec 32) {i : ℕ} (hw : (w i).toNat < 32) (h : before w i < 51) :
    slotN w i < 2048 ∧ slotN w i / 64 = (w i).toNat := by
  unfold slotN
  rw [if_pos h]
  omega

theorem slot_lost (w : ℕ → BitVec 32) {i : ℕ} (h : ¬ before w i < 51) : slotN w i = 3000 := if_neg h

theorem slot_lt (w : ℕ → BitVec 32) {i : ℕ} (hw : (w i).toNat < 32) : slotN w i < 3001 := by
  unfold slotN
  split <;> omega

/-- A row of the triangle of ones against the marks of 256 tokens counts the marks up to that row. -/
theorem tri_sum (P : ℕ → Prop) [DecidablePred P] (r : Fin 256) :
    ∑ k : Fin 256, (if k.val ≤ r.val then (1 : EReal) else 0) * (if P k.val then 1 else 0) = ((Nat.count P (r.val + 1) : ℕ) : EReal) := by
  have e : ∀ k : Fin 256, (if k.val ≤ r.val then (1 : EReal) else 0) * (if P k.val then 1 else 0) = if k.val ≤ r.val ∧ P k.val then 1 else 0 := by
    intro k
    by_cases h1 : k.val ≤ r.val <;> by_cases h2 : P k.val <;> simp [h1, h2]
  rw [Finset.sum_congr rfl fun k _ => e k, Finset.sum_boole]
  refine congrArg (Nat.cast (R := EReal)) ?_
  rw [Routing.card_filter_fin 256 (fun k => k ≤ r.val ∧ P k)]
  obtain ⟨r, hr⟩ := r
  show Nat.count (fun k => k ≤ r ∧ P k) 256 = Nat.count P (r + 1)
  rw [show 256 = (r + 1) + (255 - r) by omega, Nat.count_add]
  rw [Routing.count_congr_of_lt (Q := P) (r + 1) (fun i hi => ⟨fun h => h.2, fun h => ⟨by omega, h⟩⟩)]
  rw [show Nat.count (fun k => r + 1 + k ≤ r ∧ P (r + 1 + k)) (255 - r) = 0 from
    Nat.count_iff_forall_not.mpr fun k _ h => by have := h.1; omega]
  rfl

/-- The counts of all experts against the mark of one leave that one's. -/
theorem pick_sum {n : ℕ} (hn : n ≤ 2 ^ 32) (f : ℕ → EReal) (e : BitVec 32) (he : e.toNat < n) :
    ∑ c : Fin n, f c.val * (if e = BitVec.ofNat 32 c.val then (1 : EReal) else 0) = f e.toNat := by
  rw [Finset.sum_eq_single (⟨e.toNat, he⟩ : Fin n)]
  · rw [if_pos (by simp), mul_one]
  · intro c _ hc
    rw [if_neg, mul_zero]
    intro h
    apply hc
    apply Fin.ext
    show c.val = e.toNat
    rw [h, BitVec.toNat_ofNat, Nat.mod_eq_of_lt (by omega)]
  · intro h; exact absurd (Finset.mem_univ _) h

/-- The slot from the count up to a token, as the program finds it. -/
theorem slot_word (e : BitVec 32) (b : ℕ) (he : e.toNat < 32) (hb : b ≤ 2048) :
    (FloatOps.fptosi 32 (Scalar.select (FloatOps.cmpf .olt (((b + 1 : ℕ) : EReal) - Ideal.ofBits .f32 0x3F800000#32 : Ideal .f32) (Ideal.ofBits .f32 0x424C0000#32))
      ((FloatOps.sitofp .f32 e : Ideal .f32) * Ideal.ofBits .f32 0x42800000#32 + (((b + 1 : ℕ) : EReal) - Ideal.ofBits .f32 0x3F800000#32))
      (Ideal.ofBits .f32 0x453B8000#32) : Ideal .f32) : BitVec 32)
      = BitVec.ofNat 32 (if b < 51 then 64 * e.toNat + b else 3000) := by
  have c51 : Ideal.ofBits .f32 0x424C0000#32 = ((51 : ℕ) : EReal) := by
    rw [← EReal.coe_natCast]; simp [Ideal.ofBits, Ideal.ieee, -EReal.coe_mul, -EReal.coe_natCast]; norm_num
  have c64 : Ideal.ofBits .f32 0x42800000#32 = ((64 : ℕ) : EReal) := by
    rw [← EReal.coe_natCast]; simp [Ideal.ofBits, Ideal.ieee, -EReal.coe_mul, -EReal.coe_natCast]; norm_num
  have c3k : Ideal.ofBits .f32 0x453B8000#32 = ((3000 : ℕ) : EReal) := by
    rw [← EReal.coe_natCast]; simp [Ideal.ofBits, Ideal.ieee, -EReal.coe_mul, -EReal.coe_natCast]; norm_num
  have s0 : ((b + 1 : ℕ) : EReal) - Ideal.ofBits .f32 0x3F800000#32 = ((b : ℕ) : EReal) := by
    rw [Ideal.ofBits_one_f32, ← EReal.coe_natCast, ← EReal.coe_natCast, ← EReal.coe_one, ← EReal.coe_sub]
    exact congrArg Real.toEReal (by rw [Nat.cast_add, Nat.cast_one, add_sub_cancel_right])
  have hs : (FloatOps.sitofp .f32 e : Ideal .f32) = ((e.toNat : ℕ) : EReal) := by
    show ((e.toInt : ℝ) : EReal) = _
    rw [BitVec.toInt_eq_toNat_of_lt (by omega), ← EReal.coe_natCast]
    push_cast
    rfl
  have fin : ∀ n : ℕ, n < 2 ^ 31 → Ideal.fptosi 32 ((n : ℕ) : EReal) = BitVec.ofNat 32 n := by
    intro n hn
    unfold Ideal.fptosi
    rw [← EReal.coe_natCast, Ideal.toIntClamped_coe, if_pos (Nat.cast_nonneg n), Int.floor_natCast]
    rw [show max (-((2 ^ (32 - 1) : ℕ) : ℤ)) (min (((2 ^ (32 - 1) : ℕ) : ℤ) - 1) (n : ℤ)) = (n : ℤ) by norm_num at hn ⊢; omega]
    exact BitVec.ofInt_natCast 32 n
  rw [s0, c51, c64, c3k, hs]
  show Ideal.fptosi 32 (Scalar.select (Ideal.cmp .olt ((b : ℕ) : EReal) ((51 : ℕ) : EReal)) _ _) = _
  by_cases h : b < 51
  · rw [if_pos h, show Ideal.cmp .olt ((b : ℕ) : EReal) ((51 : ℕ) : EReal) = 1#1 from by
      unfold Ideal.cmp; simp only [EReal.natCast_lt_iff]; rw [decide_eq_true h]; rfl]
    rw [ValueIdx.select_one, show ((e.toNat : ℕ) : EReal) * ((64 : ℕ) : EReal) + ((b : ℕ) : EReal) = ((64 * e.toNat + b : ℕ) : EReal) from by
      push_cast; rw [mul_comm]]
    exact fin _ (by omega)
  · rw [if_neg h, show Ideal.cmp .olt ((b : ℕ) : EReal) ((51 : ℕ) : EReal) = 0#1 from by
      unfold Ideal.cmp; simp only [EReal.natCast_lt_iff]; rw [decide_eq_false h]; rfl]
    rw [ValueIdx.select_zero]
    exact fin _ (by omega)

end Cert.KernelIdeal.Hand
-- ==== Proof.Counts.lean ====
/- The program's running counts and slots are those of the tokens. -/
module

public import proofs.«01_k».proof.Proof.Tally
public import proofs.«01_k».proof.Proof.Slots
public import Idealize.ShloMosaic.Lib.Pipeline.Value
public import Idealize.ShloMosaic.Lib.MatmulPlain

@[expose] public section

set_option maxRecDepth 16384

noncomputable section

namespace Cert.KernelIdeal.Hand

open Idealize.ShloMosaic
open scoped BigOperators
open Cert.KernelIdeal.Gen
open Idealize.ShloMosaic.ValueIdx

/-! ### Down the columns -/

theorem blkC_at (rt : Vec Ideal S2048x1 .i32) (i : Fin 8) (r : Fin 256) :
    blkC rt i (ix2 r 0) = rt (ix2 ⟨256 * i.val + r.val, by omega⟩ 0) := by
  unfold blkC
  show rt _ = rt _
  refine congrArg rt (funext fun a => Fin.ext ?_)
  match a with
  | 0 => show 256 * i.val + 1 * r.val = 256 * i.val + r.val; omega
  | 1 => rfl

theorem hotC_at (e : Vec Ideal S256x1 .i32) (r : Fin 256) (c : Fin 32) :
    hotC (F := Ideal) e (ix2 r c) = if e (ix2 r 0) = BitVec.ofNat 32 c.val then 1 else 0 := by
  rw [← eq_num]
  unfold hotC
  rw [shapeCast_self]
  show FloatOps.sitofp (F := Ideal) .f32 ((IntOp.cmpi .eq (broadcastTo S256x32 e broadcasts_S256x1_S256x32 (ix2 r c)) (iota .tc S256x32 32 [1] iota_S256x32_d1_w32 (ix2 r c))).setWidth 32) = _
  rw [broadcastTo_apply e broadcasts_S256x1_S256x32 (ix2 r c) (ix2 r 0) (fun a => by match a with | 0 => rfl | 1 => rfl), iota_single_apply]

theorem low_at (r k : Fin 256) : k0_pay1 (F := Ideal) (ix2 r k) = if k.val ≤ r.val then 1 else 0 := by
  unfold k0_pay1
  show FloatOps.sitofp (F := Ideal) .f32 ((IntOp.cmpi .sge (iota .tc S256x256 32 [0] iota_S256x256_d0_w32 (ix2 r k)) (iota .tc S256x256 32 [1] iota_S256x256_d1_w32 (ix2 r k))).setWidth 32) = _
  rw [bit_num, iota_single_apply, iota_single_apply]
  have hr := r.2
  have hk := k.2
  refine if_congr ?_ rfl rfl
  show IntOp.cmpi .sge (BitVec.ofNat 32 r.val) (BitVec.ofNat 32 k.val) = 1#1 ↔ _
  rw [StableHlo.Predicate.sge_iff_toNat] <;> simp only [BitVec.toNat_ofNat] <;> omega

theorem cumC_at (carry : FVec Ideal S1x32 .f32) (e : Vec Ideal S256x1 .i32) (r : Fin 256) (c : Fin 32) :
    cumC carry e (ix2 r c) = ((Nat.count (fun k => e (ix2 (Fin.ofNat 256 k) 0) = BitVec.ofNat 32 c.val) (r.val + 1) : ℕ) : EReal) + carry (ix2 0 c) := by
  unfold cumC
  rw [addf_apply, broadcastTo_apply carry broadcasts_S1x32_S256x32 (ix2 r c) (ix2 0 c) (fun a => by match a with | 0 => rfl | 1 => rfl)]
  refine congrArg (· + carry (ix2 0 c)) ?_
  show FloatOps.matmul (DotDims.plain 256 256 32) none (k0_pay1 (F := Ideal)) (truncf .bf16 (hotC e) bitsLt_bf16_f32) (constant S256x32 .f32 0x00000000#32) (ix2 r c) = _
  rw [Ideal.matmul_plain_apply, constant_apply, Ideal.ofBits_zero_f32, zero_add, ← tri_sum]
  refine Finset.sum_congr rfl fun k _ => ?_
  rw [low_at, truncf_apply, hotC_at, Fin.ofNat_val_eq_self]

theorem slC_at (cum : FVec Ideal S256x32 .f32) (e : Vec Ideal S256x1 .i32) (r : Fin 256) (b : ℕ) (hb : b ≤ 2048)
    (he : (e (ix2 r 0)).toNat < 32) (f : ℕ → EReal) (hf : ∀ c : Fin 32, cum (ix2 r c) = f c.val) (hfb : f (e (ix2 r 0)).toNat = ((b + 1 : ℕ) : EReal)) :
    slC cum e (ix2 r 0) = BitVec.ofNat 32 (if b < 51 then 64 * (e (ix2 r 0)).toNat + b else 3000) := by
  rw [← slot_word _ b he hb]
  unfold slC
  rw [shapeCast_self, shapeCast_self]
  have hs : shapeCast S256x1 (multiReduction .add [1] S256 (mulf cum (hotC e)) 0x00000000#32 reduces_S256x32_S256 (.inl rfl) rfl) shapeCasts_S256_S256x1 (ix2 r 0)
      = ((b + 1 : ℕ) : EReal) := by
    rw [shapeCast_apply _ shapeCasts_S256_S256x1 (ix2 r 0) (ix1 r) (by rw [Shape.rowMajor_val_one, Shape.rowMajor_val_two]; show r.val = r.val * 1 + 0; omega)]
    refine (Ideal.multiReduction_add_single _ _ _ _ _ _).trans ?_
    rw [← hfb, ← pick_sum (by decide) f _ he]
    refine Finset.sum_congr rfl fun (c : Fin 32) _ => ?_
    have hl : reduces_S256x32_S256.lift (ix1 r) c = ix2 r c := funext fun a => Fin.ext (by match a with | 0 => rfl | 1 => rfl)
    exact congrArg₂ (· * ·) ((congrArg cum hl).trans (hf c)) ((congrArg (hotC e) hl).trans (hotC_at e r c))
  rw [← hs]
  rfl

/-- The running counts through the i-th 256 tokens count the tokens from the first on. -/
theorem cumS_at (rt : Vec Ideal S2048x1 .i32) (w : ℕ → BitVec 32) (hw : ∀ j : Fin 2048, rt (ix2 j 0) = w j.val) (c : Fin 32) :
    ∀ (i : ℕ) (_ : i < 8) (r : Fin 256), cumS rt i (ix2 r c) = ((tally w (BitVec.ofNat 32 c.val) (256 * i + r.val + 1) : ℕ) : EReal) := by
  have hb : ∀ (i : ℕ) (_ : i < 8) (r : Fin 256), Nat.count (fun k => blkC rt (Fin.ofNat 8 i) (ix2 (Fin.ofNat 256 k) 0) = BitVec.ofNat 32 c.val) (r.val + 1)
      = Nat.count (fun k => w (256 * i + k) = BitVec.ofNat 32 c.val) (r.val + 1) := by
    intro i hi r
    refine Routing.count_congr_of_lt _ fun k hk => ?_
    have h1 : k % 256 = k := Nat.mod_eq_of_lt (by omega)
    have h2 : i % 8 = i := Nat.mod_eq_of_lt hi
    rw [blkC_at, hw]
    show w (256 * (i % 8) + k % 256) = _ ↔ _
    rw [h1, h2]
  intro i
  induction i with
  | zero =>
    intro hi r
    show cumC noneC (blkC rt 0) (ix2 r c) = _
    rw [cumC_at, show noneC (F := Ideal) (ix2 0 c) = 0 from Ideal.ofBits_zero_f32, add_zero, show (0 : Fin 8) = Fin.ofNat 8 0 from rfl, hb 0 hi r]
    simp only [Nat.mul_zero, Nat.zero_add]
    rfl
  | succ i ih =>
    intro hi r
    show cumC (nextC (cumS rt i)) (blkC rt (Fin.ofNat 8 (i + 1))) (ix2 r c) = _
    rw [cumC_at, hb (i + 1) hi r, show nextC (cumS rt i) (ix2 0 c) = cumS rt i (ix2 255 c) from
      extractStridedSlice_apply _ _ _ _ _ fun a => by match a with | 0 => rfl | 1 => show c.val = 0 + c.val; omega]
    rw [ih (by omega) 255, ← Nat.cast_add]
    refine congrArg (Nat.cast (R := EReal)) ?_
    unfold tally
    show _ + Nat.count _ (256 * i + 255 + 1) = _
    rw [show 256 * (i + 1) + r.val + 1 = (256 * i + 255 + 1) + (r.val + 1) by omega, Nat.count_add _ (256 * i + 255 + 1), Nat.add_comm (Nat.count _ (r.val + 1))]
    rfl

/-- The column of slots holds the slots. -/
theorem slotCol_at (rt : Vec Ideal S2048x1 .i32) (w : ℕ → BitVec 32) (hw : ∀ j : Fin 2048, rt (ix2 j 0) = w j.val) (hr : ∀ j, j < 2048 → (w j).toNat < 32)
    (j : Fin 2048) : slotCol rt (ix2 j 0) = BitVec.ofNat 32 (slotN w j.val) := by
  have hj := j.2
  have hq : j.val / 256 < 8 := by omega
  have hm : j.val / 256 % 8 = j.val / 256 := Nat.mod_eq_of_lt hq
  have hd : 256 * (j.val / 256) + j.val % 256 = j.val := Nat.div_add_mod _ _
  have he : blkC rt (Fin.ofNat 8 (j.val / 256)) (ix2 ⟨j.val % 256, Nat.mod_lt _ (by decide)⟩ 0) = w j.val := by
    rw [blkC_at, hw]
    show w (256 * (j.val / 256 % 8) + j.val % 256) = _
    rw [hm, hd]
  have hb : before w j.val ≤ 2048 := le_trans (Nat.count_le _) (by omega)
  have h := slC_at (cumS rt (j.val / 256)) (blkC rt (Fin.ofNat 8 (j.val / 256))) ⟨j.val % 256, Nat.mod_lt _ (by decide)⟩ (before w j.val) hb
    (by rw [he]; exact hr _ hj) (fun c => ((tally w (BitVec.ofNat 32 c) (j.val + 1) : ℕ) : EReal))
    (fun c => by rw [cumS_at rt w hw c _ hq]; show ((tally w _ (256 * (j.val / 256) + j.val % 256 + 1) : ℕ) : EReal) = _; rw [hd])
    (by rw [he]; show ((tally w (BitVec.ofNat 32 (w j.val).toNat) (j.val + 1) : ℕ) : EReal) = _; rw [BitVec.ofNat_toNat, BitVec.setWidth_eq, tally_self])
  rw [he] at h
  exact h

end Cert.KernelIdeal.Hand
-- ==== Proof.Turn.lean ====
/- The row of slots is the column of slots of the same routes turned. -/
module

public import proofs.«01_k».proof.Proof.Counts

@[expose] public section

set_option maxRecDepth 16384

noncomputable section

namespace Cert.KernelIdeal.Hand

open Idealize.ShloMosaic
open scoped BigOperators
open Cert.KernelIdeal.Gen
open Idealize.ShloMosaic.ValueIdx

/-- An array turned over its diagonal. -/
def turn {α : Type} {a b : ℕ} (x : (⟨2, ![a, b]⟩ : Shape).Idx → α) : (⟨2, ![b, a]⟩ : Shape).Idx → α := fun y => x (ix2 (y 1) (y 0))

theorem blkR_turn (rt : Vec Ideal S1x2048 .i32) (i : Fin 8) (y : S256x1.Idx) : turn (a := 1) (b := 256) (blkR rt i) y = blkC (turn (a := 1) (b := 2048) rt) i y := by
  unfold turn blkR blkC
  show rt _ = rt _
  refine congrArg rt (funext fun a => Fin.ext ?_)
  match a with
  | 0 => rfl
  | 1 => rfl

theorem hotR_at (e : Vec Ideal S1x256 .i32) (c : Fin 32) (r : Fin 256) : hotR (F := Ideal) e (ix2 c r) = hotC (F := Ideal) (turn (a := 1) (b := 256) e) (ix2 r c) := by
  rw [hotC_at]
  unfold hotR
  rw [shapeCast_self]
  show FloatOps.sitofp (F := Ideal) .f32 ((IntOp.cmpi .eq (iota .tc S32x256 32 [0] iota_S32x256_d0_w32 (ix2 c r)) (broadcastTo S32x256 e broadcasts_S1x256_S32x256 (ix2 c r))).setWidth 32) = _
  rw [eq_num, broadcastTo_apply e broadcasts_S1x256_S32x256 (ix2 c r) (ix2 0 r) (fun a => by match a with | 0 => rfl | 1 => rfl), iota_single_apply]
  exact if_congr eq_comm rfl rfl

theorem high_at (k r : Fin 256) : k0_pay2 (F := Ideal) (ix2 k r) = k0_pay1 (F := Ideal) (ix2 r k) := by
  rw [low_at]
  unfold k0_pay2
  show FloatOps.sitofp (F := Ideal) .f32 ((IntOp.cmpi .sle (iota .tc S256x256 32 [0] iota_S256x256_d0_w32 (ix2 k r)) (iota .tc S256x256 32 [1] iota_S256x256_d1_w32 (ix2 k r))).setWidth 32) = _
  rw [bit_num, iota_single_apply, iota_single_apply]
  have hr := r.2
  have hk := k.2
  refine if_congr ?_ rfl rfl
  show IntOp.cmpi .sle (BitVec.ofNat 32 k.val) (BitVec.ofNat 32 r.val) = 1#1 ↔ _
  rw [StableHlo.Predicate.sle_iff_toNat] <;> simp only [BitVec.toNat_ofNat] <;> omega

theorem cumR_at (carry : FVec Ideal S32x1 .f32) (e : Vec Ideal S1x256 .i32) (c : Fin 32) (r : Fin 256) :
    cumR carry e (ix2 c r) = cumC (turn (a := 32) (b := 1) carry) (turn (a := 1) (b := 256) e) (ix2 r c) := by
  unfold cumR cumC
  rw [addf_apply, addf_apply, broadcastTo_apply carry broadcasts_S32x1_S32x256 (ix2 c r) (ix2 c 0) (fun a => by match a with | 0 => rfl | 1 => rfl),
    broadcastTo_apply _ broadcasts_S1x32_S256x32 (ix2 r c) (ix2 0 c) (fun a => by match a with | 0 => rfl | 1 => rfl)]
  refine congrArg (· + carry (ix2 c 0)) ?_
  show FloatOps.matmul (DotDims.plain 32 256 256) none (truncf .bf16 (hotR e) bitsLt_bf16_f32) (k0_pay2 (F := Ideal)) (constant S32x256 .f32 0x00000000#32) (ix2 c r)
    = FloatOps.matmul (DotDims.plain 256 256 32) none (k0_pay1 (F := Ideal)) (truncf .bf16 (hotC (turn (a := 1) (b := 256) e)) bitsLt_bf16_f32) (constant S256x32 .f32 0x00000000#32) (ix2 r c)
  rw [Ideal.matmul_plain_apply, Ideal.matmul_plain_apply]
  refine congrArg (Ideal.ofBits .f32 0x00000000#32 + ·) (Finset.sum_congr rfl fun k _ => ?_)
  rw [truncf_apply, truncf_apply, hotR_at, high_at, mul_comm]

theorem cumT_at (rt : Vec Ideal S1x2048 .i32) (i : ℕ) : turn (a := 32) (b := 256) (cumT rt i) = cumS (turn (a := 1) (b := 2048) rt) i := by
  have hb : ∀ j, turn (a := 1) (b := 256) (blkR rt j) = blkC (turn (a := 1) (b := 2048) rt) j := fun j => funext (blkR_turn rt j)
  induction i with
  | zero =>
    funext y
    obtain ⟨r, c, rfl⟩ : ∃ (r : Fin 256) (c : Fin 32), y = ix2 r c := ⟨y 0, y 1, eq_ix2 y⟩
    show cumR noneR (blkR rt 0) (ix2 c r) = cumC noneC (blkC _ 0) (ix2 r c)
    rw [cumR_at, hb]
    rfl
  | succ i ih =>
    funext y
    obtain ⟨r, c, rfl⟩ : ∃ (r : Fin 256) (c : Fin 32), y = ix2 r c := ⟨y 0, y 1, eq_ix2 y⟩
    show cumR (nextR (cumT rt i)) (blkR rt (Fin.ofNat 8 (i + 1))) (ix2 c r) = cumC (nextC (cumS _ i)) (blkC _ (Fin.ofNat 8 (i + 1))) (ix2 r c)
    rw [cumR_at, hb, ← ih]
    refine congrArg (fun q => cumC q _ (ix2 r c)) (funext fun z => ?_)
    unfold turn nextR nextC extractStridedSlice
    refine congrArg (cumT rt i) (funext fun a => Fin.ext ?_)
    match a with
    | 0 => rfl
    | 1 => rfl

theorem slR_at (cum : FVec Ideal S32x256 .f32) (e : Vec Ideal S1x256 .i32) (r : Fin 256) :
    slR cum e (ix2 0 r) = slC (turn (a := 32) (b := 256) cum) (turn (a := 1) (b := 256) e) (ix2 r 0) := by
  unfold slR slC
  rw [shapeCast_self, shapeCast_self, shapeCast_self, shapeCast_self]
  have hs : shapeCast S1x256 (multiReduction .add [0] S256 (mulf cum (hotR e)) 0x00000000#32 reduces_S32x256_S256 (.inl rfl) rfl) shapeCasts_S256_S1x256 (ix2 0 r)
      = shapeCast S256x1 (multiReduction .add [1] S256 (mulf (turn (a := 32) (b := 256) cum) (hotC (turn (a := 1) (b := 256) e))) 0x00000000#32 reduces_S256x32_S256 (.inl rfl) rfl)
        shapeCasts_S256_S256x1 (ix2 r 0) := by
    rw [shapeCast_apply _ shapeCasts_S256_S1x256 (ix2 0 r) (ix1 r) (by rw [Shape.rowMajor_val_one, Shape.rowMajor_val_two]; show r.val = 0 * 256 + r.val; omega),
      shapeCast_apply _ shapeCasts_S256_S256x1 (ix2 r 0) (ix1 r) (by rw [Shape.rowMajor_val_one, Shape.rowMajor_val_two]; show r.val = r.val * 1 + 0; omega)]
    refine (Ideal.multiReduction_add_single _ _ _ _ _ _).trans (Eq.trans (Finset.sum_congr rfl fun (c : Fin 32) _ => ?_)
      (Ideal.multiReduction_add_single (mulf (turn (a := 32) (b := 256) cum) (hotC (turn (a := 1) (b := 256) e))) 0x00000000#32 reduces_S256x32_S256 (.inl rfl) rfl (ix1 r)).symm)
    have hl : reduces_S256x32_S256.lift (ix1 r) c = ix2 r c := funext fun a => Fin.ext (by match a with | 0 => rfl | 1 => rfl)
    have hm : reduces_S32x256_S256.lift (ix1 r) c = ix2 c r := funext fun a => Fin.ext (by match a with | 0 => rfl | 1 => rfl)
    exact congrArg₂ (· * ·) ((congrArg cum hm).trans (congrArg (turn (a := 32) (b := 256) cum) hl).symm)
      (((congrArg (hotR e) hm).trans (hotR_at e c r)).trans (congrArg (hotC (turn (a := 1) (b := 256) e)) hl).symm)
  exact congrArg (fun s : Ideal .f32 => (FloatOps.fptosi 32 (Scalar.select (FloatOps.cmpf .olt (s - Ideal.ofBits .f32 0x3F800000#32 : Ideal .f32) (Ideal.ofBits .f32 0x424C0000#32))
      ((FloatOps.sitofp .f32 (e (ix2 0 r)) : Ideal .f32) * Ideal.ofBits .f32 0x42800000#32 + (s - Ideal.ofBits .f32 0x3F800000#32))
      (Ideal.ofBits .f32 0x453B8000#32) : Ideal .f32) : BitVec 32)) hs

/-- The row of slots is the column of slots of the turned routes. -/
theorem slotRow_at (rt : Vec Ideal S1x2048 .i32) (j : Fin 2048) :
    slotRow rt (ix2 0 j) = slotCol (turn (a := 1) (b := 2048) rt) (ix2 j 0) := by
  have hb : ∀ j, turn (a := 1) (b := 256) (blkR rt j) = blkC (turn (a := 1) (b := 2048) rt) j := fun j => funext (blkR_turn rt j)
  have h := slR_at (cumT rt (j.val / 256)) (blkR rt (Fin.ofNat 8 (j.val / 256))) ⟨j.val % 256, Nat.mod_lt _ (by decide)⟩
  rw [cumT_at, hb] at h
  exact h

end Cert.KernelIdeal.Hand
-- ==== Proof.Served.lean ====
/- The rows of the table: the token of a slot against the weights of the slot's expert. -/
module

public import proofs.«01_k».proof.Proof.Turn
public import proofs.«01_k».proof.Proof.Entry
public import Idealize.ShloMosaic.Lib.ValueLayout

@[expose] public section

set_option maxRecDepth 16384

noncomputable section

namespace Cert.KernelIdeal.Hand

open Idealize.ShloMosaic
open scoped BigOperators
open Cert.KernelIdeal.Gen
open Idealize.ShloMosaic.ValueIdx

/-- A sum over the marks of at most one place leaves what stands there. -/
theorem one_hit {n : ℕ} (p : Fin n → Prop) [DecidablePred p] (X : Fin n → EReal) (k : Fin n) (hk : p k) (hu : ∀ j, p j → j = k) :
    ∑ j, (if p j then (1 : EReal) else 0) * X j = X k := by
  rw [Finset.sum_eq_single k]
  · rw [if_pos hk, one_mul]
  · intro j _ hj
    rw [if_neg fun h => hj (hu j h), zero_mul]
  · intro h; exact absurd (Finset.mem_univ _) h

/-- Over no mark it is zero. -/
theorem no_hit {n : ℕ} (p : Fin n → Prop) [DecidablePred p] (X : Fin n → EReal) (h : ∀ j, ¬ p j) :
    ∑ j, (if p j then (1 : EReal) else 0) * X j = 0 :=
  Finset.sum_eq_zero fun j _ => by rw [if_neg (h j), zero_mul]

theorem word_inj {a b : ℕ} (ha : a < 4096) (hb : b < 4096) : BitVec.ofNat 32 a = BitVec.ofNat 32 b ↔ a = b := by
  constructor
  · intro h
    have h' := congrArg BitVec.toNat h
    simp only [BitVec.toNat_ofNat] at h'
    omega
  · rintro rfl; rfl

theorem lo_word (c : Dev nD) : loW c = BitVec.ofNat 32 (512 * c.val) := by revert c; decide +kernel

/-- The dispatched tokens, each row the sum of the tokens of that slot. -/
theorem dispd_at (c : Dev nD) (x : Vec Ideal S2048x1024 .f32) (rt : Vec Ideal S1x2048 .i32) (r : Fin 512) (k : Fin 1024) :
    dispd c x rt (ix2 r k) = ∑ j : Fin 2048, (if slotRow rt (ix2 0 j) = BitVec.ofNat 32 (512 * c.val + r.val) then (1 : EReal) else 0) * x (ix2 j k) := by
  unfold dispd k0_pay81 k0_pay80
  rw [shapeCast_self, shapeCast_self, truncf_apply]
  refine (Ideal.matmul_plain_apply (M := 512) (K := 2048) (N := 1024) none _ _ _ r k).trans ?_
  rw [constant_apply, Ideal.ofBits_zero_f32, zero_add]
  refine Finset.sum_congr rfl fun j _ => ?_
  rw [truncf_apply]
  refine congrArg (· * x (ix2 j k)) ?_
  show FloatOps.sitofp (F := Ideal) .f32 ((IntOp.cmpi .eq (broadcastTo S512x2048 (slotRow rt) broadcasts_S1x2048_S512x2048 (ix2 r j))
    (loW c + iota .tc S512x2048 32 [0] iota_S512x2048_d0_w32 (ix2 r j))).setWidth 32) = _
  rw [eq_num, broadcastTo_apply _ broadcasts_S1x2048_S512x2048 (ix2 r j) (ix2 0 j) (fun a => by match a with | 0 => rfl | 1 => rfl), iota_single_apply, lo_word, BitVec.ofNat_add]

/-- One product of the experts. -/
theorem prod_at (a : Vec Ideal S64x1024 .bf16) (b : Vec Ideal S1x1024x1024 .f32) (r : Fin 64) (h : Fin 1024) :
    k0_pay82 a b (ix2 r h) = ∑ k : Fin 1024, a (ix2 r k) * b (ix3 0 k h) := by
  unfold k0_pay82
  rw [shapeCast_self, truncf_apply]
  refine (Ideal.matmul_plain_apply (M := 64) (K := 1024) (N := 1024) none _ _ _ r h).trans ?_
  rw [constant_apply, Ideal.ofBits_zero_f32, zero_add]
  refine Finset.sum_congr rfl fun k _ => ?_
  rw [truncf_apply, shapeCast_1ab_ab_apply]

variable (m : (ℓ : Loc nD τ sig) → Buf (Elt Ideal) ℓ)

/-- The table at the slot of a token: the token against the weights of the slot's expert. -/
theorem tab_at (X : Vec Ideal S2048x1024 .f32) (w : ℕ → BitVec 32) (W : (⟨3, ![32, 1024, 1024]⟩ : Shape).Idx → EReal)
    (hw : ∀ j, j < 2048 → (w j).toNat < 32) (hX : ∀ d, xOf m d = X)
    (hs : ∀ d (j : Fin 2048), slotRow (rowOf m d) (ix2 0 j) = BitVec.ofNat 32 (slotN w j.val))
    (hW : ∀ (d : Fin 4) (e : Fin 8) (k h : Fin 1024), wOf m d (ix3 e k h) = W (ix3 ⟨8 * d.val + e.val, by omega⟩ k h))
    (s i : Fin 2048) (hi : slotN w i.val = s.val) (h : Fin 1024) :
    tabOf m (ix2 s h) = ∑ k : Fin 1024, X (ix2 i k) * W (ix3 ⟨s.val / 64, by omega⟩ k h) := by
  have hs' := s.2
  unfold tabOf
  refine (prod_at _ _ ⟨s.val % 64, Nat.mod_lt _ (by decide)⟩ h).trans (Finset.sum_congr rfl fun k _ => ?_)
  refine congrArg₂ (· * ·) ?_ ?_
  · have e : xdRows (dispd ⟨s.val / 512, by show _ < 4; omega⟩ (xOf m ⟨s.val / 512, by show _ < 4; omega⟩) (rowOf m ⟨s.val / 512, by show _ < 4; omega⟩))
        ⟨s.val / 64 % 8, Nat.mod_lt _ (by decide)⟩ (ix2 ⟨s.val % 64, Nat.mod_lt _ (by decide)⟩ k)
        = dispd ⟨s.val / 512, by show _ < 4; omega⟩ (xOf m ⟨s.val / 512, by show _ < 4; omega⟩) (rowOf m ⟨s.val / 512, by show _ < 4; omega⟩)
          (ix2 ⟨s.val % 512, Nat.mod_lt _ (by decide)⟩ k) := by
      unfold xdRows
      show dispd _ _ _ _ = _
      refine congrArg (dispd _ _ _) (funext fun a => Fin.ext ?_)
      match a with
      | 0 => show 64 * (s.val / 64 % 8) + 1 * (s.val % 64) = s.val % 512; omega
      | 1 => show 0 + 1 * k.val = k.val; omega
    refine e.trans ((dispd_at _ _ _ _ _).trans ?_)
    rw [hX]
    refine one_hit (fun j : Fin 2048 => slotRow (rowOf m _) (ix2 0 j) = BitVec.ofNat 32 (512 * (s.val / 512) + s.val % 512)) (fun j => X (ix2 j k)) i ?_ ?_
    · show slotRow _ _ = _
      rw [hs, hi, Nat.div_add_mod]
    · intro j hj
      rw [hs, Nat.div_add_mod, ← hi, word_inj (by have := slot_lt w (hw _ j.2); omega) (by omega)] at hj
      exact (Fin.ext (slot_inj w (by omega) hj.symm)).symm
  · have e : ∀ (u : Wts Ideal) (x : Fin 8), expert u x (ix3 0 k h) = u (ix3 x k h) := fun u x =>
      congrArg u (funext fun a => match a with | 0 => rfl | 1 => rfl | 2 => rfl)
    refine (e _ _).trans ((hW ⟨s.val / 512, by omega⟩ ⟨s.val / 64 % 8, Nat.mod_lt _ (by decide)⟩ k h).trans (congrArg (fun e => W (ix3 e k h)) (Fin.ext ?_)))
    show 8 * (s.val / 512) + s.val / 64 % 8 = s.val / 64
    omega

end Cert.KernelIdeal.Hand
-- ==== Proof.Mixed.lean ====
/- The result of a device: each of its tokens takes the row of its slot. -/
module

public import proofs.«01_k».proof.Proof.Served

@[expose] public section

set_option maxRecDepth 16384

noncomputable section

namespace Cert.KernelIdeal.Hand

open Idealize.ShloMosaic
open scoped BigOperators
open Cert.KernelIdeal.Gen
open Idealize.ShloMosaic.ValueIdx

/-- What chunk k of the table adds to a token of the slot sl. -/
def part (T : Tab Ideal) (sl : BitVec 32) (k : Fin 4) (h : Fin 1024) : EReal :=
  ∑ q : Fin 512, (if sl = BitVec.ofNat 32 (512 * k.val + q.val) then (1 : EReal) else 0) * T (ix2 ⟨512 * k.val + q.val, by omega⟩ h)

/-- The marks of the tokens against the rows of a chunk. -/
def marks (sl : IVec S512x1 32) (wd : BitVec 32) : FVec Ideal S512x512 .bf16 :=
  truncf .bf16 (sitofp (F := Ideal) .f32 (extui 32 (cmpi .eq (broadcastTo S512x512 sl broadcasts_S512x1_S512x512) (addi (broadcast S512x512 wd) cols)) natLt_1_32)) bitsLt_bf16_f32

theorem term_at (T : Tab Ideal) (sl : IVec S512x1 32) (wd : BitVec 32) (k : Fin 4) (hwd : wd = BitVec.ofNat 32 (512 * k.val)) (r : Fin 512) (h : Fin 1024) :
    matmul (φ₂ := .bf16) dot_S512x512_S512x1024_S512x1024_1_0_0_1_n_n none (marks sl wd) (chunkT T k) (constant S512x1024 .f32 0x00000000#32) (ix2 r h)
      = part T (sl (ix2 r 0)) k h := by
  refine (Ideal.matmul_plain_apply (M := 512) (K := 512) (N := 1024) none _ _ _ r h).trans ?_
  rw [constant_apply, Ideal.ofBits_zero_f32, zero_add]
  refine Finset.sum_congr rfl fun q _ => congrArg₂ (· * ·) ?_ ?_
  · unfold marks
    rw [truncf_apply]
    show FloatOps.sitofp (F := Ideal) .f32 ((IntOp.cmpi .eq (broadcastTo S512x512 sl broadcasts_S512x1_S512x512 (ix2 r q))
      (wd + iota .tc S512x512 32 [1] iota_S512x512_d1_w32 (ix2 r q))).setWidth 32) = _
    rw [eq_num, broadcastTo_apply _ broadcasts_S512x1_S512x512 (ix2 r q) (ix2 r 0) (fun a => by match a with | 0 => rfl | 1 => rfl), iota_single_apply, hwd, BitVec.ofNat_add]
  · exact congrArg T (funext fun a => match a with | 0 => rfl | 1 => rfl)

/-- The chunks' first rows as the program finds them. -/
theorem words (c : Dev nD) : Scalar.muli (meW c) 512#32 = BitVec.ofNat 32 (512 * (far c 0).val)
    ∧ Scalar.muli (Scalar.remsi (Scalar.addi (meW c) 2#32) 4#32) 512#32 = BitVec.ofNat 32 (512 * (far c 2).val)
    ∧ Scalar.muli (rightW (meW c)) 512#32 = BitVec.ofNat 32 (512 * (far c 1).val)
    ∧ Scalar.muli (leftW (meW c)) 512#32 = BitVec.ofNat 32 (512 * (far c 3).val) := by
  revert c; decide +kernel

/-- The result is the four chunks' parts. -/
theorem out_at (T : Tab Ideal) (c : Dev nD) (sc : Vec Ideal S2048x1 .i32) (r : Fin 512) (h : Fin 1024) :
    out T c (meW c) sc (ix2 r h) = part T (mySlots c sc (ix2 r 0)) (far c 0) h + part T (mySlots c sc (ix2 r 0)) (far c 2) h
      + part T (mySlots c sc (ix2 r 0)) (far c 1) h + part T (mySlots c sc (ix2 r 0)) (far c 3) h := by
  obtain ⟨h0, h2, h1, h3⟩ := words c
  rw [← term_at T (mySlots c sc) _ _ h0 r h, ← term_at T (mySlots c sc) _ _ h2 r h, ← term_at T (mySlots c sc) _ _ h1 r h, ← term_at T (mySlots c sc) _ _ h3 r h]
  unfold out mixed k0_pay98 k0_pay97 k0_pay95 k0_pay93
  rw [shapeCast_self, shapeCast_self, shapeCast_self]
  rfl

/-- Only the chunk of its slot adds to a token. -/
theorem part_of (T : Tab Ideal) (s : Fin 2048) (k : Fin 4) (h : Fin 1024) :
    part T (BitVec.ofNat 32 s.val) k h = if s.val / 512 = k.val then T (ix2 s h) else (0 : EReal) := by
  have hs := s.2
  have hk := k.2
  unfold part
  split
  · rename_i e
    refine (one_hit (fun q : Fin 512 => BitVec.ofNat 32 s.val = BitVec.ofNat 32 (512 * k.val + q.val)) (fun q => T (ix2 ⟨512 * k.val + q.val, by omega⟩ h))
      ⟨s.val % 512, Nat.mod_lt _ (by decide)⟩ ?_ ?_).trans ?_
    · show _ = BitVec.ofNat 32 (512 * k.val + s.val % 512)
      rw [← e, Nat.div_add_mod]
    · intro q hq
      rw [word_inj (by omega) (by omega)] at hq
      exact Fin.ext (by show q.val = s.val % 512; omega)
    · exact congrArg (fun u => T (ix2 u h)) (Fin.ext (by show 512 * k.val + s.val % 512 = s.val; omega))
  · rename_i e
    refine no_hit _ _ fun q hq => e ?_
    rw [word_inj (by omega) (by omega)] at hq
    omega

/-- A token without a slot gets nothing. -/
theorem part_lost (T : Tab Ideal) (k : Fin 4) (h : Fin 1024) : part T (BitVec.ofNat 32 3000) k h = 0 := by
  have hk := k.2
  refine no_hit _ _ fun q hq => ?_
  rw [word_inj (by omega) (by omega)] at hq
  omega

/-- The rows a device serves start at its own. -/
theorem rows_from (c : Dev nD) : k0_off3 c 0 = 512 * c.val ∧ k0_off3 c 1 = 0 := by revert c; decide +kernel

theorem four (c : Dev nD) (q : Fin 4) :
    (q.val = (far c 0).val ∧ q.val ≠ (far c 2).val ∧ q.val ≠ (far c 1).val ∧ q.val ≠ (far c 3).val)
      ∨ (q.val ≠ (far c 0).val ∧ q.val = (far c 2).val ∧ q.val ≠ (far c 1).val ∧ q.val ≠ (far c 3).val)
      ∨ (q.val ≠ (far c 0).val ∧ q.val ≠ (far c 2).val ∧ q.val = (far c 1).val ∧ q.val ≠ (far c 3).val)
      ∨ (q.val ≠ (far c 0).val ∧ q.val ≠ (far c 2).val ∧ q.val ≠ (far c 1).val ∧ q.val = (far c 3).val) := by
  revert c q; decide +kernel

/-- Among the four chunks a device reads, each is there once. -/
theorem one_of_four (c : Dev nD) (q : Fin 4) (Y : EReal) :
    (if q.val = (far c 0).val then Y else 0) + (if q.val = (far c 2).val then Y else 0)
      + (if q.val = (far c 1).val then Y else 0) + (if q.val = (far c 3).val then Y else 0) = Y := by
  rcases four c q with ⟨a0, a2, a1, a3⟩ | ⟨a0, a2, a1, a3⟩ | ⟨a0, a2, a1, a3⟩ | ⟨a0, a2, a1, a3⟩
  · rw [if_pos a0, if_neg a2, if_neg a1, if_neg a3, add_zero, add_zero, add_zero]
  · rw [if_neg a0, if_pos a2, if_neg a1, if_neg a3, zero_add, add_zero, add_zero]
  · rw [if_neg a0, if_neg a2, if_pos a1, if_neg a3, zero_add, zero_add, add_zero]
  · rw [if_neg a0, if_neg a2, if_neg a1, if_pos a3, zero_add, zero_add, zero_add]

/-- A token with a slot gets the table's row there, the others zero. -/
theorem out_val (T : Tab Ideal) (c : Dev nD) (sc : Vec Ideal S2048x1 .i32) (n : ℕ) (r : Fin 512) (h : Fin 1024)
    (hn : sc (ix2 ⟨512 * c.val + r.val, by have : c.val < 4 := c.2; omega⟩ 0) = BitVec.ofNat 32 n) :
    (∀ s : Fin 2048, n = s.val → out T c (meW c) sc (ix2 r h) = T (ix2 s h)) ∧ (n = 3000 → out T c (meW c) sc (ix2 r h) = (0 : EReal)) := by
  have hm : mySlots c sc (ix2 r 0) = BitVec.ofNat 32 n := by
    rw [← hn]
    unfold mySlots
    show sc _ = sc _
    refine congrArg sc (funext fun a => Fin.ext ?_)
    have ho := rows_from c
    match a with
    | 0 => show k0_off3 c 0 + 1 * r.val = 512 * c.val + r.val; rw [ho.1]; omega
    | 1 => show k0_off3 c 1 + 1 * 0 = 0; rw [ho.2]
  rw [out_at, hm]
  constructor
  · rintro s rfl
    simp only [part_of]
    exact one_of_four c ⟨s.val / 512, by have := s.2; omega⟩ _
  · rintro rfl
    simp only [part_lost, add_zero]

end Cert.KernelIdeal.Hand
-- ==== Proof.Whole.lean ====
/- The kernel's result, element by element. -/
module

public import proofs.«01_k».proof.Proof.Mixed

@[expose] public section

set_option maxRecDepth 16384

noncomputable section

namespace Cert.KernelIdeal.Hand

open Idealize.ShloMosaic
open scoped BigOperators
open Cert.KernelIdeal.Gen
open Idealize.ShloMosaic.ValueIdx
open Idealize.ShloMosaic.TcCoe

variable (m : (ℓ : Loc nD τ sig) → Buf (Elt Ideal) ℓ)

/-- The routes as a row are the column of the routes, turned. -/
theorem rowOf_at (c : Dev nD) (j : Fin 2048) : rowOf m c (ix2 0 j) = colOf m c (ix2 j 0) := by
  have e : rowOf m c = transpose S1x2048 [1, 0] (colOf m c) transposes_S2048x1_S1x2048_1_0 := by
    unfold colOf
    rw [V_main_arg2]
    rfl
  rw [e]
  exact transpose_apply _ _ _ _ _ (fun a => by match a with | 0 => rfl | 1 => rfl)

/-- A token's result on the device that serves it. -/
theorem res_at (X : Vec Ideal S2048x1024 .f32) (w : ℕ → BitVec 32) (W : (⟨3, ![32, 1024, 1024]⟩ : Shape).Idx → EReal)
    (hw : ∀ j, j < 2048 → (w j).toNat < 32) (hX : ∀ d, xOf m d = X) (hR : ∀ d (j : Fin 2048), colOf m d (ix2 j 0) = w j.val)
    (hW : ∀ (d : Fin 4) (e : Fin 8) (k h : Fin 1024), wOf m d (ix3 e k h) = W (ix3 ⟨8 * d.val + e.val, by omega⟩ k h))
    (c : Fin 4) (r : Fin 512) (h : Fin 1024) (i : Fin 2048) (hi : i.val = 512 * c.val + r.val) :
    resOf m c (ix2 r h) = if before w i.val < 51 then ∑ k : Fin 1024, X (ix2 i k) * W (ix3 ⟨(w i.val).toNat, hw i.val i.2⟩ k h) else (0 : EReal) := by
  have hc : slotCol (colOf m c) (ix2 ⟨512 * c.val + r.val, by omega⟩ 0) = BitVec.ofNat 32 (slotN w i.val) := by
    rw [hi]; exact slotCol_at _ w (hR c) hw _
  have hs : ∀ d (j : Fin 2048), slotRow (rowOf m d) (ix2 0 j) = BitVec.ofNat 32 (slotN w j.val) := fun d j =>
    (slotRow_at _ j).trans (slotCol_at _ w (fun q => (rowOf_at m d q).trans (hR d q)) hw j)
  obtain ⟨hv, hz⟩ := out_val (tabOf m) c (slotCol (colOf m c)) (slotN w i.val) r h hc
  by_cases hb : before w i.val < 51
  · rw [if_pos hb]
    have hn : slotN w i.val = 64 * (w i.val).toNat + before w i.val := if_pos hb
    have hwi := hw i.val i.2
    refine (hv ⟨slotN w i.val, by omega⟩ rfl).trans ((tab_at m X w W hw hX hs hW ⟨slotN w i.val, by omega⟩ i rfl h).trans ?_)
    exact congrArg (fun e : Fin 32 => ∑ k : Fin 1024, ((X (ix2 i k) : EReal) * W (ix3 e k h)))
      (Fin.ext (by show slotN w i.val / 64 = (w i.val).toNat; omega) : (⟨slotN w i.val / 64, by omega⟩ : Fin 32) = ⟨(w i.val).toNat, hw i.val i.2⟩)
  · rw [if_neg hb]
    exact hz (if_neg hb)

end Cert.KernelIdeal.Hand
-- ==== Proof.Plain.lean ====
/- The plain program's steps, read at one token. -/
module

public import proofs.«01_k».proof.Proof.Gen.ReferenceIdeal.Run
public import proofs.«01_k».proof.Proof.Tally
public import Idealize.ShloMosaic.Lib.Routing.Count
public import Idealize.ShloMosaic.Lib.ValueLayout

@[expose] public section

set_option maxRecDepth 16384

noncomputable section

namespace Cert.ReferenceIdeal.Hand

open Idealize.ShloMosaic
open scoped BigOperators
open Cert.ReferenceIdeal.Gen
open Cert.KernelIdeal.Hand (before tally)
open Idealize.ShloMosaic.ValueIdx
open Idealize.ShloMosaic.StableHlo.Predicate (ij ixP bcast_rows bcast_cols bcast_col1 cmpi_eq_iff slt_iff_toNat toNat_reduce_count_cols toInt_eq_toNat_of_lt)

/-! ### The tokens before a token -/

/-- The tokens of one kind among all that stand before the p-th are those among the first p. -/
theorem count_below (Q : ℕ → Prop) [DecidablePred Q] (p N : ℕ) (hp : p ≤ N) : Nat.count (fun q => Q q ∧ q < p) N = Nat.count Q p := by
  obtain ⟨k, rfl⟩ := Nat.exists_eq_add_of_le hp
  rw [Nat.count_add]
  have h0 : Nat.count (fun j => Q (p + j) ∧ p + j < p) k = 0 := by
    rw [Nat.count_eq_card_filter_range, Finset.card_eq_zero, Finset.filter_eq_empty_iff]
    exact fun j _ hj => by omega
  rw [h0, Nat.add_zero, Nat.count_eq_card_filter_range, Nat.count_eq_card_filter_range]
  exact congrArg Finset.card (Finset.filter_congr fun q hq => by simp [Finset.mem_range.1 hq])

/-- The number of a place, as a vector. -/
abbrev places : IVec S2048 32 := iotaInDim S2048 32 0

/-- The marks of the tokens of the same route that come earlier. -/
def earlier (e : IVec S2048 32) : IVec S2048x2048 1 :=
  andi (cmpi .eq (broadcastInDim S2048x2048 ![0, 1] bcast_S1x2048_S2048x2048_0_1 (broadcastInDim S1x2048 ![1] bcast_S2048_S1x2048_1 e))
      (broadcastInDim S2048x2048 ![0, 1] bcast_S2048x1_S2048x2048_0_1 (broadcastInDim S2048x1 ![0] bcast_S2048_S2048x1_0 e)))
    (cmpi .slt (broadcastInDim S2048x2048 ![0, 1] bcast_S1x2048_S2048x2048_0_1 (broadcastInDim S1x2048 ![1] bcast_S2048_S1x2048_1 places))
      (broadcastInDim S2048x2048 ![0, 1] bcast_S2048x1_S2048x2048_0_1 (broadcastInDim S2048x1 ![0] bcast_S2048_S2048x1_0 places)))

theorem and_bits (a b : BitVec 1) : IntOp.andi a b = 1#1 ↔ a = 1#1 ∧ b = 1#1 := by
  revert a b; decide

theorem earlier_iff (e : IVec S2048 32) (p q : Fin 2048) :
    earlier e (ij p q) = 1#1 ↔ e (Shape.Idx.ofFin q) = e (Shape.Idx.ofFin p) ∧ q.val < p.val := by
  have hp := p.2
  have hq := q.2
  refine (and_bits _ _).trans (and_congr ?_ ?_)
  · refine cmpi_eq_iff.trans (Eq.congr ?_ ?_)
    · exact bcast_cols bcast_S2048_S1x2048_1 bcast_S1x2048_S2048x2048_0_1 e p q
    · exact bcast_rows bcast_S2048_S2048x1_0 bcast_S2048x1_S2048x2048_0_1 e p q
  · show IntOp.cmpi .slt _ _ = 1#1 ↔ _
    rw [bcast_cols bcast_S2048_S1x2048_1 bcast_S1x2048_S2048x2048_0_1 places p q, bcast_rows bcast_S2048_S2048x1_0 bcast_S2048x1_S2048x2048_0_1 places p q]
    have hv : ∀ x : Fin 2048, (places (Shape.Idx.ofFin x)).toNat = x.val := fun x => by
      show (BitVec.ofNat 32 x.val).toNat = x.val
      rw [BitVec.toNat_ofNat]; exact Nat.mod_eq_of_lt (by have := x.2; omega)
    rw [slt_iff_toNat (by rw [hv]; omega) (by rw [hv]; omega), hv, hv]

/-- How many earlier tokens take a token's route. -/
def ahead (e : IVec S2048 32) : IVec S2048 32 :=
  Host.reduce IntOp.addi (extui 32 (earlier e) natLt_1_32) (constantI S_ 32 0#32) reducesTo_S2048x2048_S2048_d1 h_S_

theorem ahead_at (e : IVec S2048 32) (w : ℕ → BitVec 32) (hw : ∀ j : Fin 2048, e (Shape.Idx.ofFin j) = w j.val) (p : Fin 2048) :
    (ahead e (Shape.Idx.ofFin p)).toNat = before w p.val := by
  refine (toNat_reduce_count_cols (by decide) (earlier e) natLt_1_32 reducesTo_S2048x2048_S2048_d1 h_S_ (Shape.Idx.ofFin p)).trans ?_
  refine Eq.trans (congrArg Finset.card (Finset.filter_congr fun q _ => ?_)) ((Routing.card_filter_fin 2048 fun q => w q = w p.val ∧ q < p.val).trans (count_below _ _ _ (by have := p.2; omega)))
  refine (earlier_iff e p q).trans ?_
  rw [hw, hw]

/-! ### The weights of a token -/

theorem weights_at (A : Vec Ideal S32x1024x1024 .f32) (idx : IVec S2048x1 32) (i : Fin 2048) (x : Fin 32) (hx : idx (ix2 i 0) = BitVec.ofNat 32 x.val) (k h : Fin 1024) :
    Host.gather gather_S32x1024x1024_S2048x1_S2048x1024x1024_12_0_n_n_0_1_110241024 A idx (ix3 i k h) = A (ix3 x k h) := by
  refine congrArg A (funext fun a => Fin.ext ?_)
  match a with
  | 0 =>
    have hs : gather_S32x1024x1024_S2048x1_S2048x1024x1024_12_0_n_n_0_1_110241024.siIdx (ix3 i k h) ⟨0, by decide⟩ = ix2 i 0 :=
      funext fun b => Fin.ext (by match b with | 0 => rfl | 1 => rfl)
    show min (idx (gather_S32x1024x1024_S2048x1_S2048x1024x1024_12_0_n_n_0_1_110241024.siIdx (ix3 i k h) ⟨0, by decide⟩)).toInt.toNat 31 + 0 + 0 = x.val
    have hx' := x.2
    rw [hs, hx, StableHlo.Predicate.toInt_ofNat_small _ (by omega)]
    show min x.val 31 + 0 + 0 = x.val
    omega
  | 1 => show 0 + 0 + k.val = k.val; omega
  | 2 => show 0 + 0 + h.val = h.val; omega

/-- The product of each token with its weights. -/
theorem prods_at (X : FVec Ideal S2048x1024 .f32) (B : FVec Ideal S2048x1024x1024 .f32) (i : Fin 2048) (h : Fin 1024) :
    Host.dotGeneral dot_S2048x1024_S2048x1024x1024_S2048x1024_1_1_n_2_0_0 none X B (ix2 i h) = ∑ k : Fin 1024, X (ix2 i k) * B (ix3 i k h) := by
  refine (Ideal.dotGeneral_apply _ _ _ X B (ix2 i h)).trans ?_
  rw [← Equiv.sum_comp (contrEquiv1 dot_S2048x1024_S2048x1024x1024_S2048x1024_1_1_n_2_0_0 1024 rfl rfl).symm]
  refine Finset.sum_congr rfl fun k _ => congrArg₂ (· * ·) (congrArg X ?_) (congrArg B ?_)
  all_goals
    have hk := contrEquiv1_symm_val dot_S2048x1024_S2048x1024x1024_S2048x1024_1_1_n_2_0_0 1024 rfl rfl k
    funext a
    apply Fin.ext
  · match a with
    | 0 => rfl
    | 1 => exact hk
  · match a with
    | 0 => rfl
    | 1 => exact hk
    | 2 => rfl

end Cert.ReferenceIdeal.Hand
-- ==== Proof.Refer.lean ====
/- The plain program's result, element by element. -/
module

public import proofs.«01_k».proof.Proof.Plain
public import Idealize.ShloMosaic.Lib.IdealHost
public import Idealize.ShloMosaic.Lib.Pipeline.Value

@[expose] public section

set_option maxRecDepth 16384

noncomputable section

namespace Cert.ReferenceIdeal.Hand

open Idealize.ShloMosaic
open scoped BigOperators
open Cert.ReferenceIdeal.Gen
open Cert.KernelIdeal.Hand (before tally)
open Idealize.ShloMosaic.ValueIdx
open Idealize.ShloMosaic.StableHlo.Predicate (slt_iff_toNat)

/-- The routes as a vector. -/
def routes (R : Vec Ideal S2048x1 .i32) : IVec S2048 32 := shapeCast _ R shapeCasts_S2048x1_S2048

theorem routes_at (R : Vec Ideal S2048x1 .i32) (j : Fin 2048) : routes R (Shape.Idx.ofFin j) = R (ix2 j 0) := by
  refine shapeCast_apply R shapeCasts_S2048x1_S2048 (Shape.Idx.ofFin j) (ix2 j 0) ?_
  rw [Shape.rowMajor_val_two, Shape.rowMajor_val_one]
  show j.val * 1 + 0 = j.val
  omega

/-- The plain program's result. -/
def answer (X : FVec Ideal S2048x1024 .f32) (R : Vec Ideal S2048x1 .i32) (A : FVec Ideal S32x1024x1024 .f32) : FVec Ideal S2048x1024 .f32 :=
  select (broadcastInDim S2048x1024 ![0, 1] bcast_S2048x1_S2048x1024_0_1 (broadcastInDim S2048x1 ![0] bcast_S2048_S2048x1_0 (cmpi .slt (ahead (routes R)) (broadcastInDim S2048 ![] bcast_S_S2048 (constantI S_ 32 51#32)))))
    (Host.dotGeneral (φ₁ := .f32) (φ₂ := .f32) dot_S2048x1024_S2048x1024x1024_S2048x1024_1_1_n_2_0_0 none X (Host.gather gather_S32x1024x1024_S2048x1_S2048x1024x1024_12_0_n_n_0_1_110241024 A
      (broadcastInDim S2048x1 ![0] bcast_S2048_S2048x1_0 (select (cmpi .slt (routes R) (broadcastInDim S2048 ![] bcast_S_S2048 (constantI S_ 32 0#32))) (addi (routes R) (broadcastInDim S2048 ![] bcast_S_S2048 (constantI S_ 32 32#32))) (routes R)))))
    (broadcastInDim S2048x1024 ![] bcast_S_S2048x1024 (constant S_ .f32 0x00000000#32))

/-- A token's result: the product with its expert's weights, if fewer than 51 earlier tokens take that expert; else zero. -/
theorem answer_at (X : FVec Ideal S2048x1024 .f32) (R : Vec Ideal S2048x1 .i32) (A : FVec Ideal S32x1024x1024 .f32) (w : ℕ → BitVec 32)
    (hw : ∀ j : Fin 2048, R (ix2 j 0) = w j.val) (i : Fin 2048) (hr : (w i.val).toNat < 32) (h : Fin 1024) :
    answer X R A (ix2 i h) = if before w i.val < 51 then ∑ k : Fin 1024, X (ix2 i k) * A (ix3 ⟨(w i.val).toNat, hr⟩ k h) else (0 : EReal) := by
  have he : ∀ j : Fin 2048, routes R (Shape.Idx.ofFin j) = w j.val := fun j => (routes_at R j).trans (hw j)
  have hb := ahead_at (routes R) w he i
  have hl : before w i.val ≤ i.val := Nat.count_le _
  have hi := i.2
  have hz : ∀ z : IVec S_ 32, ∀ j : Fin 2048, broadcastInDim S2048 ![] bcast_S_S2048 z (Shape.Idx.ofFin j) = z ix0 := fun z j => broadcastInDim_scalar_apply bcast_S_S2048 z _
  have hc : broadcastInDim S2048x1024 ![0, 1] bcast_S2048x1_S2048x1024_0_1 (broadcastInDim S2048x1 ![0] bcast_S2048_S2048x1_0 (cmpi .slt (ahead (routes R)) (broadcastInDim S2048 ![] bcast_S_S2048 (constantI S_ 32 51#32)))) (ix2 i h) = 1#1
      ↔ before w i.val < 51 := by
    rw [broadcastInDim_apply _ bcast_S2048x1_S2048x1024_0_1 _ (ix2 i h) (ix2 i 0) (fun a => by match a with | 0 => rfl | 1 => rfl),
      broadcastInDim_apply _ bcast_S2048_S2048x1_0 _ (ix2 i 0) (Shape.Idx.ofFin i) (fun a => by match a with | 0 => rfl)]
    show IntOp.cmpi .slt (ahead (routes R) (Shape.Idx.ofFin i)) (broadcastInDim S2048 ![] bcast_S_S2048 (constantI S_ 32 51#32) (Shape.Idx.ofFin i)) = 1#1 ↔ _
    rw [hz, slt_iff_toNat (by rw [hb]; omega) (by decide), hb]
    rfl
  have hg : (broadcastInDim S2048x1 ![0] bcast_S2048_S2048x1_0 (select (cmpi .slt (routes R) (broadcastInDim S2048 ![] bcast_S_S2048 (constantI S_ 32 0#32))) (addi (routes R) (broadcastInDim S2048 ![] bcast_S_S2048 (constantI S_ 32 32#32))) (routes R))) (ix2 i 0)
      = BitVec.ofNat 32 (⟨(w i.val).toNat, hr⟩ : Fin 32).val := by
    rw [broadcastInDim_apply _ bcast_S2048_S2048x1_0 _ (ix2 i 0) (Shape.Idx.ofFin i) (fun a => by match a with | 0 => rfl)]
    show Scalar.select (IntOp.cmpi .slt (routes R (Shape.Idx.ofFin i)) (broadcastInDim S2048 ![] bcast_S_S2048 (constantI S_ 32 0#32) (Shape.Idx.ofFin i))) _ (routes R (Shape.Idx.ofFin i)) = _
    rw [hz, he]
    refine (if_neg fun hlt => ?_).trans (BitVec.eq_of_toNat_eq ?_)
    · exact absurd ((slt_iff_toNat (a := w i.val) (b := 0#32) (by omega) (by decide)).1 hlt) (Nat.not_lt_zero _)
    · rw [BitVec.toNat_ofNat]; exact (Nat.mod_eq_of_lt (w i.val).isLt).symm
  unfold answer
  rw [select_apply]
  refine (if_congr hc ?_ ?_ : _ = _)
  · refine (prods_at X _ i h).trans (Finset.sum_congr rfl fun k _ => ?_)
    rw [weights_at A _ i _ hg k h]
  · rw [broadcastInDim_scalar_apply]
    exact Ideal.ofBits_zero_f32

end Cert.ReferenceIdeal.Hand
-- ==== Proof.Agree.lean ====
/- The kernel's results are the blocks of the plain program's. -/
module

public import proofs.«01_k».proof.Defs
public import proofs.«01_k».proof.Proof.Whole
public import proofs.«01_k».proof.Proof.Refer
public import proofs.«01_k».proof.Proof.Run
public import Idealize.ShloMosaic.Lib.LayoutAt

@[expose] public section

set_option maxRecDepth 16384

noncomputable section

namespace Cert.Proof

open Idealize.ShloMosaic Idealize.ShloMosaic.TcCoe Idealize.SL.Sem
open Idealize.ShloMosaic.ValueIdx
open Idealize.ShloMosaic.StableHlo.Predicate (slt_iff_toNat toInt_eq_toNat_of_lt)
open Cert.ReferenceIdeal.Hand (answer answer_at and_bits)
open Cert.KernelIdeal.Hand (resOf xOf colOf wOf res_at)

theorem holds_kernel : Cert.Pre_routes_in_range_KernelIdeal.Facts := ⟨by decide⟩
theorem holds_reference : Cert.Pre_routes_in_range_ReferenceIdeal.Facts := ⟨by decide⟩

/-- A word that is not negative and less than 32 is less than 32 as a count. -/
theorem word_range (a : BitVec 32) (h0 : IntOp.cmpi .sge a 0#32 = 1#1) (h1 : IntOp.cmpi .slt a 32#32 = 1#1) : a.toNat < 32 := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have t : (32#32 : BitVec 32).toInt = 32 := by decide
  rw [z] at h0
  rw [t] at h1
  have hv := BitVec.toInt_eq_toNat_cond a
  have hl := a.isLt
  split at hv <;> omega

/-- What the routes' range says of each of them. -/
theorem in_range [Cert.Pre_routes_in_range_KernelIdeal.Facts] (x : FVec Ideal ⟨2, ![2048, 1024]⟩ .f32) (l : FVec Ideal ⟨2, ![1024, 32]⟩ .f32) (R : IVec ⟨2, ![2048, 1]⟩ 32)
    (W : FVec Ideal ⟨3, ![8, 1024, 1024]⟩ .f32) (h : Cert.Pre_routes_in_range_KernelIdeal.fn x l R W = fun _ => 1#1) (j : Fin 2048) :
    (R (ix2 j 0)).toNat < 32 := by
  have h' : IntOp.andi (IntOp.cmpi .sge (R (ix2 j 0)) 0#32) (IntOp.cmpi .slt (R (ix2 j 0)) 32#32) = 1#1 := congrFun h (ix2 j 0)
  exact word_range _ ((and_bits _ _).1 h').1 ((and_bits _ _).1 h').2

/-- A device's result is its block of the plain program's. -/
theorem res_block (m : (ℓ : Loc Cert.KernelIdeal.nD Cert.KernelIdeal.τ Cert.KernelIdeal.sig) → Buf (Elt Ideal) ℓ)
    (X : FVec Ideal ⟨2, ![2048, 1024]⟩ .f32) (R : IVec ⟨2, ![2048, 1]⟩ 32) (A : FVec Ideal ⟨3, ![32, 1024, 1024]⟩ .f32)
    (hR : ∀ j : Fin 2048, (R (ix2 j 0)).toNat < 32) (hx : ∀ d, xOf m d = X) (hc : ∀ d, colOf m d = R)
    (hA : ∀ d : Fin 4, wOf m d = Layout.block ⟨3, ![8, 1024, 1024]⟩ ⟨3, ![32, 1024, 1024]⟩ 0 4 d A) (c : Fin 4) :
    resOf m c = Layout.block ⟨2, ![512, 1024]⟩ ⟨2, ![2048, 1024]⟩ 0 4 c (answer X R A) := by
  funext y
  obtain ⟨r, h, rfl⟩ : ∃ (r : Fin 512) (h : Fin 1024), y = ix2 r h := ⟨y 0, y 1, eq_ix2 y⟩
  let w : ℕ → BitVec 32 := fun j => if hj : j < 2048 then R (ix2 ⟨j, hj⟩ 0) else 0#32
  have hw : ∀ j : Fin 2048, R (ix2 j 0) = w j.val := fun j => by simp only [w, dif_pos j.2]
  have hl : ∀ j, j < 2048 → (w j).toNat < 32 := fun j hj => by rw [← hw ⟨j, hj⟩]; exact hR _
  have hW : ∀ (d : Fin 4) (e : Fin 8) (k h : Fin 1024), wOf m d (ix3 e k h) = A (ix3 ⟨8 * d.val + e.val, by omega⟩ k h) := fun d e k h => by
    rw [hA]
    refine congrArg A (funext fun a => Fin.ext ?_)
    match a with
    | 0 => show d.val * 8 + e.val = 8 * d.val + e.val; omega
    | 1 => rfl
    | 2 => rfl
  have hi : (⟨512 * c.val + r.val, by omega⟩ : Fin 2048).val = 512 * c.val + r.val := rfl
  refine (res_at m X w A hl hx (fun d j => (congrFun (hc d) _).trans (hw j)) hW c r h ⟨512 * c.val + r.val, by omega⟩ hi).trans ?_
  refine (answer_at X R A w hw ⟨512 * c.val + r.val, by omega⟩ (hl _ (by omega)) h).symm.trans (congrArg (answer X R A) (funext fun a => Fin.ext ?_))
  match a with
  | 0 => show 512 * c.val + r.val = c.val * 512 + r.val; omega
  | 1 => rfl

end Cert.Proof

end
-- ==== Proof.lean ====
/- The claims, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Run
public import proofs.«01_k».proof.Proof.Bits.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The kernel, with rounded floats, runs to its end and leaves its arguments and counters as they were. -/
theorem frame_kernel : Cert.quiescent_Kernel := fun m g _ =>
  (θ_run Cert.Kernel.defs _ _).mono (fun _ h => ⟨fun c => (h.1 c).1, h.2⟩) (Cert.Kernel.Hand.run_main (F := Bits) m g)

/-- The same of the kernel with exact floats. -/
theorem frame_ideal : Cert.quiescent_KernelIdeal := fun m g _ =>
  (θ_run Cert.KernelIdeal.defs _ _).mono (fun _ h => ⟨fun c => (h.1 c).1, h.2⟩) (Cert.KernelIdeal.Hand.run_main (F := Ideal) m g)

/-- The reference runs to its end and leaves its arguments as they were; it has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's results, put together along the devices, are the reference's result, when the routes name experts. -/
theorem same_result [hPre_routes_in_range_KernelIdeal : Cert.Pre_routes_in_range_KernelIdeal.Facts] :
    Cert.algebraic_KernelIdeal_ReferenceIdeal_pre_routes_in_range_KernelIdeal := by
  intro m g m' g' hp hin
  refine ⟨Cert.ReferenceIdeal.Hand.answer
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨((h.1 c).2).trans ?_, (h.1 c).1⟩) (Cert.KernelIdeal.Hand.run_main (F := Ideal) m g)
    refine res_block m _ _ _ (fun j => ?_) (fun d => (Cert.KernelIdeal.Gen.V_main_arg0 m d).trans (hin d).1)
      (fun d => (Cert.KernelIdeal.Gen.V_main_arg2 m d).trans (hin d).2.2.1) (fun d => (Cert.KernelIdeal.Gen.V_main_arg3 m d).trans (hin d).2.2.2) c
    have hj := in_range _ _ _ _ (hp 0) j
    exact (congrArg (fun R : IVec ⟨2, ![2048, 1]⟩ 32 => (R (ValueIdx.ix2 j 0)).toNat) (hin 0).2.2.1).symm.trans_lt hj
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts, holds_kernel, holds_reference,
  frame_kernel, frame_ideal, fun m g _ => frame_ideal m g trivial, frame_reference, fun m g _ => frame_reference m g trivial, trivial,
  same_result (hPre_routes_in_range_KernelIdeal := holds_kernel)⟩

end Cert.Proof

end
